-- ==== Defs.lean ====
def Pre_Kernel [hPre_plan_in_range : Cert.Pre_plan_in_range.Facts] (m : (ℓ : Loc Cert.Kernel.nD Cert.Kernel.τ Cert.Kernel.sig) → Buf (Elt Bits) ℓ) : Prop :=
  ∀ c : Dev Cert.Kernel.nD,
    (Cert.Pre_plan_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_plan_in_range : Cert.Pre_plan_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_plan_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_plan_covers [hPre_plan_covers : Cert.Pre_plan_covers.Facts] (m : (ℓ : Loc Cert.KernelIdeal.nD Cert.KernelIdeal.τ Cert.KernelIdeal.sig) → Buf (Elt Ideal) ℓ) : Prop :=
  ∀ c : Dev Cert.KernelIdeal.nD,
    (Cert.Pre_plan_covers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plan_covers [hPre_plan_covers : Cert.Pre_plan_covers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan_covers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_plan_in_range : Cert.Pre_plan_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_plan_in_range : Cert.Pre_plan_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_plan_covers [hKernelIdeal : Cert.KernelIdeal.Facts] [hPre_plan_covers : Cert.Pre_plan_covers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plan_covers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_plan_covers [hReferenceIdeal : Cert.ReferenceIdeal.Facts] [hPre_plan_covers : Cert.Pre_plan_covers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plan_covers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def preserves_Kernel_KernelIdeal : Prop :=
  True

def algebraic_KernelIdeal_ReferenceIdeal_pre_plan_covers [hKernelIdeal : Cert.KernelIdeal.Facts] [hReferenceIdeal : Cert.ReferenceIdeal.Facts] [hPre_plan_covers : Cert.Pre_plan_covers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plan_covers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_on_stream_lanes [hKernel2Ideal : Cert.Kernel2Ideal.Facts] [hReference2Ideal : Cert.Reference2Ideal.Facts] [hOn_stream_lanes : Cert.On_stream_lanes.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v24_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![32768, 1152]⟩ : Shape).Idx, (Cert.On_stream_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))) i = 1#1 → r.2.mem ((c.tc : Thread Cert.Kernel2Ideal.nD Cert.Kernel2Ideal.τ).loc Cert.Kernel2Ideal.main_v24_0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![32768, 1152]⟩ : Shape).Idx, (Cert.On_stream_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))) i = 1#1 → r.2.mem ((c.tc : Thread Cert.Reference2Ideal.nD Cert.Reference2Ideal.τ).loc Cert.Reference2Ideal.main_v60) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_plan_in_range : Cert.Pre_plan_in_range.Facts) (hPre_plan_covers : Cert.Pre_plan_covers.Facts) (hOn_stream_lanes : Cert.On_stream_lanes.Facts),
    quiescent_Kernel (hKernel := hKernel) (hPre_plan_in_range := hPre_plan_in_range)
    ∧ quiescent_KernelIdeal (hKernelIdeal := hKernelIdeal) (hPre_plan_in_range := hPre_plan_in_range)
    ∧ quiescent_KernelIdeal_pre_plan_covers (hKernelIdeal := hKernelIdeal) (hPre_plan_covers := hPre_plan_covers)
    ∧ quiescent_ReferenceIdeal (hReferenceIdeal := hReferenceIdeal)
    ∧ quiescent_ReferenceIdeal_pre_plan_covers (hReferenceIdeal := hReferenceIdeal) (hPre_plan_covers := hPre_plan_covers)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_plan_covers (hKernelIdeal := hKernelIdeal) (hReferenceIdeal := hReferenceIdeal) (hPre_plan_covers := hPre_plan_covers)
    ∧ preserves_Kernel2_Kernel2Ideal
    ∧ algebraic_Kernel2Ideal_Reference2Ideal_on_stream_lanes (hKernel2Ideal := hKernel2Ideal) (hReference2Ideal := hReference2Ideal) (hOn_stream_lanes := hOn_stream_lanes)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_stream_lanes.lean ====
abbrev S32768x1024 : Shape := ⟨2, ![32768, 1024]⟩
abbrev S32768x512 : Shape := ⟨2, ![32768, 512]⟩
abbrev S1024 : Shape := ⟨1, ![1024]⟩
abbrev S1024x2048 : Shape := ⟨2, ![1024, 2048]⟩
abbrev S2048 : Shape := ⟨1, ![2048]⟩
abbrev S512x512 : Shape := ⟨2, ![512, 512]⟩
abbrev S512 : Shape := ⟨1, ![512]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S32768x1152 : Shape := ⟨2, ![32768, 1152]⟩
abbrev S_ : Shape := ⟨0, ![]⟩

class Facts : Prop where
  bcast_S_S32768x1152 : S_.BroadcastsInDim S32768x1152 (![] : Fin 0 → Fin S32768x1152.rank)

variable [Facts]

def fn {F : FTy → Type} [FloatOps F] (main_arg0 : FVec F S32768x1024 .f32) (main_arg1 : FVec F S32768x512 .bf16) (main_arg2 : FVec F S32768x512 .bf16) (main_arg3 : FVec F S1024 .f32) (main_arg4 : FVec F S1024x2048 .f32) (main_arg5 : FVec F S2048 .f32) (main_arg6 : FVec F S512x512 .f32) (main_arg7 : FVec F S512 .f32) (main_arg8 : FVec F S1024x1024 .f32) (main_arg9 : FVec F S1024x1024 .f32) (main_arg10 : FVec F S1024 .f32) (main_arg11 : FVec F S1024x4 .f32) (main_arg12 : FVec F S4 .f32) (main_arg13 : FVec F S1024x16 .f32) (main_arg14 : FVec F S16 .f32) : IVec S32768x1152 1 :=
  let main_v0 : IVec S32768x1152 32 := iotaInDim S32768x1152 32 1
  let main_c : IVec S_ 32 := constantI S_ 32 1024#32
  let main_v1 : IVec S32768x1152 32 := broadcastInDim S32768x1152 ![] bcast_S_S32768x1152 main_c
  let main_v2 : IVec S32768x1152 1 := cmpi .slt main_v0 main_v1
  main_v2
-- ==== Pre_plan_covers.lean ====
abbrev S88 : Shape := ⟨1, ![88]⟩
abbrev S1 : Shape := ⟨1, ![1]⟩
abbrev S32768x1152 : Shape := ⟨2, ![32768, 1152]⟩
abbrev S1024 : Shape := ⟨1, ![1024]⟩
abbrev S16x1024x256 : Shape := ⟨3, ![16, 1024, 256]⟩
abbrev S16x256x1024 : Shape := ⟨3, ![16, 256, 1024]⟩
abbrev S_ : Shape := ⟨0, ![]⟩
abbrev S87 : Shape := ⟨1, ![87]⟩
abbrev S1x1x88x1 : Shape := ⟨4, ![1, 1, 88, 1]⟩
abbrev S64x512x88x16 : Shape := ⟨4, ![64, 512, 88, 16]⟩
abbrev S64x512x16 : Shape := ⟨3, ![64, 512, 16]⟩
abbrev S32768x16 : Shape := ⟨2, ![32768, 16]⟩

class Facts : Prop where
  bcast_S_S88 : S_.BroadcastsInDim S88 (![] : Fin 0 → Fin S88.rank)
  reducesTo_S88_S_d0 : S88.ReducesTo [0] S_
  h_S_ : 0 < S_.numel
  shapeCasts_S1_S_ : S1.ShapeCasts S_
  slices_S88_S1_0 : S88.Slices ![0] S1
  slices_S88_S87_1 : S88.Slices ![1] S87
  slices_S88_S87_0 : S88.Slices ![0] S87
  bcast_S_S87 : S_.BroadcastsInDim S87 (![] : Fin 0 → Fin S87.rank)
  reducesTo_S87_S_d0 : S87.ReducesTo [0] S_
  slices_S88_S1_87 : S88.Slices ![87] S1
  shapeCasts_S88_S1x1x88x1 : S88.ShapeCasts S1x1x88x1
  bcast_S1x1x88x1_S64x512x88x16_0_1_2_3 : S1x1x88x1.BroadcastsInDim S64x512x88x16 (![0, 1, 2, 3] : Fin 4 → Fin S64x512x88x16.rank)
  natLt_1_32 : 1 < 32
  reducesTo_S64x512x88x16_S64x512x16_d2 : S64x512x88x16.ReducesTo [2] S64x512x16
  slices_S32768x1152_S32768x16_0_1024 : S32768x1152.Slices ![0, 1024] S32768x16
  shapeCasts_S32768x16_S64x512x16 : S32768x16.ShapeCasts S64x512x16
  bcast_S_S64x512x16 : S_.BroadcastsInDim S64x512x16 (![] : Fin 0 → Fin S64x512x16.rank)
  reducesTo_S64x512x16_S_d0_1_2 : S64x512x16.ReducesTo [0, 1, 2] S_

variable [Facts]

def fn_part5 {F : FTy → Type} [FloatOps F] (main_v95 : IVec S_ 1) (main_v100 : IVec S64x512x16 1) : IVec S_ 1 :=
  let main_c_17 : IVec S_ 1 := constantI S_ 1 1#1
  let main_v101 : IVec S_ 1 := (fun x v => Host.reduce IntOp.andi x v reducesTo_S64x512x16_S_d0_1_2 h_S_) main_v100 main_c_17
  let main_v102 : IVec S_ 1 := andi main_v95 main_v101
  main_v102

def fn_part4 {F : FTy → Type} [FloatOps F] (main_arg2 : IVec S88 32) (main_arg7 : FVec F S32768x1152 .f32) (main_v19 : IVec S_ 1) (main_v33 : IVec S_ 1) (main_v56 : IVec S_ 1) (main_v59 : IVec S_ 1) (main_v76 : IVec S64x512x88x16 1) (main_v78 : IVec S64x512x88x16 32) (main_v79 : IVec S64x512x88x16 32) : IVec S_ 1 :=
  let main_v80 : IVec S64x512x88x16 1 := cmpi .eq main_v79 main_v78
  let main_v81 : IVec S64x512x88x16 1 := andi main_v76 main_v80
  let main_v82 : IVec S64x512x88x16 32 := (extui 32 · natLt_1_32) main_v81
  let main_v83 : IVec S1x1x88x1 32 := shapeCast S1x1x88x1 main_arg2 shapeCasts_S88_S1x1x88x1
  let main_v84 : IVec S64x512x88x16 32 := iotaInDim S64x512x88x16 32 3
  let main_v85 : IVec S64x512x88x16 32 := broadcastInDim S64x512x88x16 ![0, 1, 2, 3] bcast_S1x1x88x1_S64x512x88x16_0_1_2_3 main_v83
  let main_v86 : IVec S64x512x88x16 1 := cmpi .eq main_v85 main_v84
  let main_v87 : IVec S64x512x88x16 1 := andi main_v76 main_v86
  let main_v88 : IVec S64x512x88x16 32 := (extui 32 · natLt_1_32) main_v87
  let main_v89 : IVec S64x512x88x16 32 := addi main_v82 main_v88
  let main_c_15 : IVec S_ 32 := constantI S_ 32 0#32
  let main_v90 : IVec S64x512x16 32 := (fun x v => Host.reduce IntOp.addi x v reducesTo_S64x512x88x16_S64x512x16_d2 h_S_) main_v89 main_c_15
  let main_v91 : FVec F S32768x16 .f32 := (extractStridedSlice S32768x16 ![0, 1024] · slices_S32768x1152_S32768x16_0_1024) main_arg7
  let main_v92 : FVec F S64x512x16 .f32 := shapeCast S64x512x16 main_v91 shapeCasts_S32768x16_S64x512x16
  let main_v93 : IVec S_ 1 := andi main_v19 main_v33
  let main_v94 : IVec S_ 1 := andi main_v93 main_v56
  let main_v95 : IVec S_ 1 := andi main_v94 main_v59
  let main_cst : FVec F S_ .f32 := constant S_ .f32 0x00000000#32
  let main_v96 : FVec F S64x512x16 .f32 := broadcastInDim S64x512x16 ![] bcast_S_S64x512x16 main_cst
  let main_v97 : IVec S64x512x16 1 := cmpf .oeq main_v92 main_v96
  let main_c_16 : IVec S_ 32 := constantI S_ 32 1#32
  let main_v98 : IVec S64x512x16 32 := broadcastInDim S64x512x16 ![] bcast_S_S64x512x16 main_c_16
  let main_v99 : IVec S64x512x16 1 := cmpi .eq main_v90 main_v98
  let main_v100 : IVec S64x512x16 1 := ori main_v97 main_v99
  fn_part5 (F := F) main_v95 main_v100

def fn_part3 {F : FTy → Type} [FloatOps F] (main_arg0 : IVec S88 32) (main_arg1 : IVec S88 32) (main_arg2 : IVec S88 32) (main_arg3 : IVec S88 32) (main_arg4 : IVec S88 32) (main_arg7 : FVec F S32768x1152 .f32) (main_v19 : IVec S_ 1) (main_v23 : IVec S88 1) (main_v33 : IVec S_ 1) (main_v56 : IVec S_ 1) : IVec S_ 1 :=
  let main_v57 : IVec S1 32 := (extractStridedSlice S1 ![87] · slices_S88_S1_87) main_arg0
  let main_v58 : IVec S_ 32 := shapeCast S_ main_v57 shapeCasts_S1_S_
  let main_c_14 : IVec S_ 32 := constantI S_ 32 63#32
  let main_v59 : IVec S_ 1 := cmpi .eq main_v58 main_c_14
  let main_v60 : IVec S1x1x88x1 1 := shapeCast S1x1x88x1 main_v23 shapeCasts_S88_S1x1x88x1
  let main_v61 : IVec S1x1x88x1 32 := shapeCast S1x1x88x1 main_arg0 shapeCasts_S88_S1x1x88x1
  let main_v62 : IVec S64x512x88x16 32 := iotaInDim S64x512x88x16 32 0
  let main_v63 : IVec S64x512x88x16 32 := broadcastInDim S64x512x88x16 ![0, 1, 2, 3] bcast_S1x1x88x1_S64x512x88x16_0_1_2_3 main_v61
  let main_v64 : IVec S64x512x88x16 1 := cmpi .eq main_v63 main_v62
  let main_v65 : IVec S64x512x88x16 1 := broadcastInDim S64x512x88x16 ![0, 1, 2, 3] bcast_S1x1x88x1_S64x512x88x16_0_1_2_3 main_v60
  let main_v66 : IVec S64x512x88x16 1 := andi main_v65 main_v64
  let main_v67 : IVec S64x512x88x16 32 := iotaInDim S64x512x88x16 32 1
  let main_v68 : IVec S1x1x88x1 32 := shapeCast S1x1x88x1 main_arg3 shapeCasts_S88_S1x1x88x1
  let main_v69 : IVec S64x512x88x16 32 := broadcastInDim S64x512x88x16 ![0, 1, 2, 3] bcast_S1x1x88x1_S64x512x88x16_0_1_2_3 main_v68
  let main_v70 : IVec S64x512x88x16 1 := cmpi .sge main_v67 main_v69
  let main_v71 : IVec S64x512x88x16 1 := andi main_v66 main_v70
  let main_v72 : IVec S64x512x88x16 32 := iotaInDim S64x512x88x16 32 1
  let main_v73 : IVec S1x1x88x1 32 := shapeCast S1x1x88x1 main_arg4 shapeCasts_S88_S1x1x88x1
  let main_v74 : IVec S64x512x88x16 32 := broadcastInDim S64x512x88x16 ![0, 1, 2, 3] bcast_S1x1x88x1_S64x512x88x16_0_1_2_3 main_v73
  let main_v75 : IVec S64x512x88x16 1 := cmpi .slt main_v72 main_v74
  let main_v76 : IVec S64x512x88x16 1 := andi main_v71 main_v75
  let main_v77 : IVec S1x1x88x1 32 := shapeCast S1x1x88x1 main_arg1 shapeCasts_S88_S1x1x88x1
  let main_v78 : IVec S64x512x88x16 32 := iotaInDim S64x512x88x16 32 3
  let main_v79 : IVec S64x512x88x16 32 := broadcastInDim S64x512x88x16 ![0, 1, 2, 3] bcast_S1x1x88x1_S64x512x88x16_0_1_2_3 main_v77
  fn_part4 (F := F) main_arg2 main_arg7 main_v19 main_v33 main_v56 main_v59 main_v76 main_v78 main_v79

def fn_part2 {F : FTy → Type} [FloatOps F] (main_arg0 : IVec S88 32) (main_arg1 : IVec S88 32) (main_arg2 : IVec S88 32) (main_arg3 : IVec S88 32) (main_arg4 : IVec S88 32) (main_arg5 : IVec S88 32) (main_arg7 : FVec F S32768x1152 .f32) (main_v19 : IVec S_ 1) (main_v23 : IVec S88 1) (main_v33 : IVec S_ 1) (main_v34 : IVec S87 32) (main_v35 : IVec S87 32) (main_c_10 : IVec S_ 32) : IVec S_ 1 :=
  let main_v36 : IVec S87 32 := broadcastInDim S87 ![] bcast_S_S87 main_c_10
  let main_v37 : IVec S87 32 := addi main_v35 main_v36
  let main_v38 : IVec S87 1 := cmpi .eq main_v34 main_v37
  let main_v39 : IVec S87 1 := (extractStridedSlice S87 ![1] · slices_S88_S87_1) main_v23
  let main_v40 : IVec S87 1 := andi main_v38 main_v39
  let main_v41 : IVec S87 32 := (extractStridedSlice S87 ![1] · slices_S88_S87_1) main_arg5
  let main_c_11 : IVec S_ 32 := constantI S_ 32 1#32
  let main_v42 : IVec S87 32 := broadcastInDim S87 ![] bcast_S_S87 main_c_11
  let main_v43 : IVec S87 1 := cmpi .eq main_v41 main_v42
  let main_v44 : IVec S87 1 := andi main_v40 main_v43
  let main_v45 : IVec S87 32 := (extractStridedSlice S87 ![1] · slices_S88_S87_1) main_arg0
  let main_v46 : IVec S87 32 := (extractStridedSlice S87 ![0] · slices_S88_S87_0) main_arg0
  let main_v47 : IVec S87 1 := cmpi .eq main_v45 main_v46
  let main_v48 : IVec S87 1 := (extractStridedSlice S87 ![1] · slices_S88_S87_1) main_v23
  let main_v49 : IVec S87 1 := noti main_v48
  let main_v50 : IVec S87 32 := (extractStridedSlice S87 ![1] · slices_S88_S87_1) main_arg5
  let main_c_12 : IVec S_ 32 := constantI S_ 32 0#32
  let main_v51 : IVec S87 32 := broadcastInDim S87 ![] bcast_S_S87 main_c_12
  let main_v52 : IVec S87 1 := cmpi .eq main_v50 main_v51
  let main_v53 : IVec S87 1 := ori main_v49 main_v52
  let main_v54 : IVec S87 1 := andi main_v47 main_v53
  let main_v55 : IVec S87 1 := ori main_v44 main_v54
  let main_c_13 : IVec S_ 1 := constantI S_ 1 1#1
  let main_v56 : IVec S_ 1 := (fun x v => Host.reduce IntOp.andi x v reducesTo_S87_S_d0 h_S_) main_v55 main_c_13
  fn_part3 (F := F) main_arg0 main_arg1 main_arg2 main_arg3 main_arg4 main_arg7 main_v19 main_v23 main_v33 main_v56

def fn_part1 {F : FTy → Type} [FloatOps F] (main_arg0 : IVec S88 32) (main_arg1 : IVec S88 32) (main_arg2 : IVec S88 32) (main_arg3 : IVec S88 32) (main_arg4 : IVec S88 32) (main_arg5 : IVec S88 32) (main_arg6 : IVec S1 32) (main_arg7 : FVec F S32768x1152 .f32) (main_v12 : IVec S_ 1) (main_v14 : IVec S88 1) (main_v15 : IVec S88 32) : IVec S_ 1 :=
  let main_v16 : IVec S88 1 := cmpi .slt main_arg2 main_v15
  let main_v17 : IVec S88 1 := andi main_v14 main_v16
  let main_c_7 : IVec S_ 1 := constantI S_ 1 1#1
  let main_v18 : IVec S_ 1 := (fun x v => Host.reduce IntOp.andi x v reducesTo_S88_S_d0 h_S_) main_v17 main_c_7
  let main_v19 : IVec S_ 1 := andi main_v12 main_v18
  let main_v20 : IVec S88 32 := iotaInDim S88 32 0
  let main_v21 : IVec S_ 32 := shapeCast S_ main_arg6 shapeCasts_S1_S_
  let main_v22 : IVec S88 32 := broadcastInDim S88 ![] bcast_S_S88 main_v21
  let main_v23 : IVec S88 1 := cmpi .slt main_v20 main_v22
  let main_v24 : IVec S1 1 := (extractStridedSlice S1 ![0] · slices_S88_S1_0) main_v23
  let main_v25 : IVec S_ 1 := shapeCast S_ main_v24 shapeCasts_S1_S_
  let main_v26 : IVec S1 32 := (extractStridedSlice S1 ![0] · slices_S88_S1_0) main_arg0
  let main_v27 : IVec S_ 32 := shapeCast S_ main_v26 shapeCasts_S1_S_
  let main_c_8 : IVec S_ 32 := constantI S_ 32 0#32
  let main_v28 : IVec S_ 1 := cmpi .eq main_v27 main_c_8
  let main_v29 : IVec S_ 1 := andi main_v25 main_v28
  let main_v30 : IVec S1 32 := (extractStridedSlice S1 ![0] · slices_S88_S1_0) main_arg5
  let main_v31 : IVec S_ 32 := shapeCast S_ main_v30 shapeCasts_S1_S_
  let main_c_9 : IVec S_ 32 := constantI S_ 32 1#32
  let main_v32 : IVec S_ 1 := cmpi .eq main_v31 main_c_9
  let main_v33 : IVec S_ 1 := andi main_v29 main_v32
  let main_v34 : IVec S87 32 := (extractStridedSlice S87 ![1] · slices_S88_S87_1) main_arg0
  let main_v35 : IVec S87 32 := (extractStridedSlice S87 ![0] · slices_S88_S87_0) main_arg0
  let main_c_10 : IVec S_ 32 := constantI S_ 32 1#32
  fn_part2 (F := F) main_arg0 main_arg1 main_arg2 main_arg3 main_arg4 main_arg5 main_arg7 main_v19 main_v23 main_v33 main_v34 main_v35 main_c_10

def fn {F : FTy → Type} [FloatOps F] (main_arg0 : IVec S88 32) (main_arg1 : IVec S88 32) (main_arg2 : IVec S88 32) (main_arg3 : IVec S88 32) (main_arg4 : IVec S88 32) (main_arg5 : IVec S88 32) (main_arg6 : IVec S1 32) (main_arg7 : FVec F S32768x1152 .f32) (main_arg8 : FVec F S1024 .f32) (main_arg9 : FVec F S16x1024x256 .f32) (main_arg10 : FVec F S16x1024x256 .f32) (main_arg11 : FVec F S16x256x1024 .f32) : IVec S_ 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 64#32
  let main_v2 : IVec S88 32 := broadcastInDim S88 ![] bcast_S_S88 main_c_0
  let main_v3 : IVec S88 1 := cmpi .slt main_arg0 main_v2
  let main_v4 : IVec S88 1 := andi main_v1 main_v3
  let main_c_1 : IVec S_ 1 := constantI S_ 1 1#1
  let main_v5 : IVec S_ 1 := (fun x v => Host.reduce IntOp.andi x v reducesTo_S88_S_d0 h_S_) main_v4 main_c_1
  let main_c_2 : IVec S_ 32 := constantI S_ 32 0#32
  let main_v6 : IVec S88 32 := broadcastInDim S88 ![] bcast_S_S88 main_c_2
  let main_v7 : IVec S88 1 := cmpi .sge main_arg1 main_v6
  let main_c_3 : IVec S_ 32 := constantI S_ 32 16#32
  let main_v8 : IVec S88 32 := broadcastInDim S88 ![] bcast_S_S88 main_c_3
  let main_v9 : IVec S88 1 := cmpi .slt main_arg1 main_v8
  let main_v10 : IVec S88 1 := andi main_v7 main_v9
  let main_c_4 : IVec S_ 1 := constantI S_ 1 1#1
  let main_v11 : IVec S_ 1 := (fun x v => Host.reduce IntOp.andi x v reducesTo_S88_S_d0 h_S_) main_v10 main_c_4
  let main_v12 : IVec S_ 1 := andi main_v5 main_v11
  let main_c_5 : IVec S_ 32 := constantI S_ 32 0#32
  let main_v13 : IVec S88 32 := broadcastInDim S88 ![] bcast_S_S88 main_c_5
  let main_v14 : IVec S88 1 := cmpi .sge main_arg2 main_v13
  let main_c_6 : IVec S_ 32 := constantI S_ 32 16#32
  let main_v15 : IVec S88 32 := broadcastInDim S88 ![] bcast_S_S88 main_c_6
  fn_part1 (F := F) main_arg0 main_arg1 main_arg2 main_arg3 main_arg4 main_arg5 main_arg6 main_arg7 main_v12 main_v14 main_v15
-- ==== Pre_plan_in_range.lean ====
abbrev S88 : Shape := ⟨1, ![88]⟩
abbrev S1 : Shape := ⟨1, ![1]⟩
abbrev S32768x1152 : Shape := ⟨2, ![32768, 1152]⟩
abbrev S1024 : Shape := ⟨1, ![1024]⟩
abbrev S16x1024x256 : Shape := ⟨3, ![16, 1024, 256]⟩
abbrev S16x256x1024 : Shape := ⟨3, ![16, 256, 1024]⟩
abbrev S_ : Shape := ⟨0, ![]⟩

class Facts : Prop where
  bcast_S_S88 : S_.BroadcastsInDim S88 (![] : Fin 0 → Fin S88.rank)
  reducesTo_S88_S_d0 : S88.ReducesTo [0] S_
  h_S_ : 0 < S_.numel

variable [Facts]

def fn_part1 {F : FTy → Type} [FloatOps F] (main_arg2 : IVec S88 32) (main_v12 : IVec S_ 1) (main_v14 : IVec S88 1) (main_v15 : IVec S88 32) : IVec S_ 1 :=
  let main_v16 : IVec S88 1 := cmpi .slt main_arg2 main_v15
  let main_v17 : IVec S88 1 := andi main_v14 main_v16
  let main_c_7 : IVec S_ 1 := constantI S_ 1 1#1
  let main_v18 : IVec S_ 1 := (fun x v => Host.reduce IntOp.andi x v reducesTo_S88_S_d0 h_S_) main_v17 main_c_7
  let main_v19 : IVec S_ 1 := andi main_v12 main_v18
  main_v19

def fn {F : FTy → Type} [FloatOps F] (main_arg0 : IVec S88 32) (main_arg1 : IVec S88 32) (main_arg2 : IVec S88 32) (main_arg3 : IVec S88 32) (main_arg4 : IVec S88 32) (main_arg5 : IVec S88 32) (main_arg6 : IVec S1 32) (main_arg7 : FVec F S32768x1152 .f32) (main_arg8 : FVec F S1024 .f32) (main_arg9 : FVec F S16x1024x256 .f32) (main_arg10 : FVec F S16x1024x256 .f32) (main_arg11 : FVec F S16x256x1024 .f32) : IVec S_ 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 64#32
  let main_v2 : IVec S88 32 := broadcastInDim S88 ![] bcast_S_S88 main_c_0
  let main_v3 : IVec S88 1 := cmpi .slt main_arg0 main_v2
  let main_v4 : IVec S88 1 := andi main_v1 main_v3
  let main_c_1 : IVec S_ 1 := constantI S_ 1 1#1
  let main_v5 : IVec S_ 1 := (fun x v => Host.reduce IntOp.andi x v reducesTo_S88_S_d0 h_S_) main_v4 main_c_1
  let main_c_2 : IVec S_ 32 := constantI S_ 32 0#32
  let main_v6 : IVec S88 32 := broadcastInDim S88 ![] bcast_S_S88 main_c_2
  let main_v7 : IVec S88 1 := cmpi .sge main_arg1 main_v6
  let main_c_3 : IVec S_ 32 := constantI S_ 32 16#32
  let main_v8 : IVec S88 32 := broadcastInDim S88 ![] bcast_S_S88 main_c_3
  let main_v9 : IVec S88 1 := cmpi .slt main_arg1 main_v8
  let main_v10 : IVec S88 1 := andi main_v7 main_v9
  let main_c_4 : IVec S_ 1 := constantI S_ 1 1#1
  let main_v11 : IVec S_ 1 := (fun x v => Host.reduce IntOp.andi x v reducesTo_S88_S_d0 h_S_) main_v10 main_c_4
  let main_v12 : IVec S_ 1 := andi main_v5 main_v11
  let main_c_5 : IVec S_ 32 := constantI S_ 32 0#32
  let main_v13 : IVec S88 32 := broadcastInDim S88 ![] bcast_S_S88 main_c_5
  let main_v14 : IVec S88 1 := cmpi .sge main_arg2 main_v13
  let main_c_6 : IVec S_ 32 := constantI S_ 32 16#32
  let main_v15 : IVec S88 32 := broadcastInDim S88 ![] bcast_S_S88 main_c_6
  fn_part1 (F := F) main_arg2 main_v12 main_v14 main_v15
-- ==== Kernel.lean ====
abbrev S88 : Shape := ⟨1, ![88]⟩
abbrev S1 : Shape := ⟨1, ![1]⟩
abbrev S32768x1152 : Shape := ⟨2, ![32768, 1152]⟩
abbrev S1024 : Shape := ⟨1, ![1024]⟩
abbrev S16x1024x256 : Shape := ⟨3, ![16, 1024, 256]⟩
abbrev S16x256x1024 : Shape := ⟨3, ![16, 256, 1024]⟩
abbrev S1x1024 : Shape := ⟨2, ![1, 1024]⟩
abbrev S32768x1024 : Shape := ⟨2, ![32768, 1024]⟩
abbrev S512x1152 : Shape := ⟨2, ![512, 1152]⟩
abbrev S1x1024x256 : Shape := ⟨3, ![1, 1024, 256]⟩
abbrev S1x256x1024 : Shape := ⟨3, ![1, 256, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 17
  | .smem => 7
  | _ => 0

abbrev bufTy : (tb : Table) → Fin (tcTables nBuf tb) → BufTy
  | .hbm, ⟨0, _⟩ => ⟨S32768x1152, .f32⟩
  | .hbm, ⟨1, _⟩ => ⟨S1024, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S16x1024x256, .bf16⟩
  | .hbm, ⟨6, _⟩ => ⟨S16x1024x256, .bf16⟩
  | .hbm, ⟨7, _⟩ => ⟨S16x256x1024, .bf16⟩
  | .hbm, ⟨8, _⟩ => ⟨S1x1024, .f32⟩
  | .hbm, ⟨9, _⟩ => ⟨S32768x1024, .f32⟩
  | .local _ .vmem, ⟨0, _⟩ => ⟨S512x1152, .f32⟩
  | .local _ .vmem, ⟨1, _⟩ => ⟨S512x1152, .f32⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x256x1024, .bf16⟩
  | .local _ .vmem, ⟨14, _⟩ => ⟨S1x256x1024, .bf16⟩
  | .local _ .vmem, ⟨15, _⟩ => ⟨S512x1024, .f32⟩
  | .local _ .vmem, ⟨16, _⟩ => ⟨S512x1024, .f32⟩
  | .local _ .smem, ⟨0, _⟩ => ⟨S88, .i32⟩
  | .local _ .smem, ⟨1, _⟩ => ⟨S88, .i32⟩
  | .local _ .smem, ⟨2, _⟩ => ⟨S88, .i32⟩
  | .local _ .smem, ⟨3, _⟩ => ⟨S88, .i32⟩
  | .local _ .smem, ⟨4, _⟩ => ⟨S88, .i32⟩
  | .local _ .smem, ⟨5, _⟩ => ⟨S88, .i32⟩
  | .local _ .smem, ⟨6, _⟩ => ⟨S1, .i32⟩
  | _, _ => ⟨S32768x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg7 : Ref sig .tc := ⟨.hbm, 0, rfl⟩
abbrev main_arg8 : Ref sig .tc := ⟨.hbm, 1, rfl⟩
abbrev main_arg9 : Ref sig .tc := ⟨.hbm, 2, rfl⟩
abbrev main_arg10 : Ref sig .tc := ⟨.hbm, 3, rfl⟩
abbrev main_arg11 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev main_arg6 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![88], ![false]⟩

abbrev pre0 : Pipeline.Prefetch sig := ⟨7, ![main_arg0.idx, main_arg1.idx, main_arg2.idx, main_arg3.idx, main_arg4.idx, main_arg5.idx, main_arg6.idx], fun | 0 => main_arg0.names | 1 => main_arg1.names | 2 => main_arg2.names | 3 => main_arg3.names | 4 => main_arg4.names | 5 => main_arg5.names | 6 => main_arg6.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v23 : Index := Scalar.indexCast arg0
  ![v23.toNat]
def k0_off3 (i : grid0.Coords) : Fin 1 → Nat :=
  let arg0 : BitVec 32 := BitVec.ofNat 32 (i 0).val
  let v86 : Index := Scalar.indexCast arg0
  ![v86.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (v82 : BitVec 32) : BitVec 1 :=
  let c1_i32 : BitVec 32 := 1#32
  let v83 : BitVec 1 := Scalar.cmpi .eq v82 c1_i32
  let v84 : BitVec 32 := Scalar.extui v83
  let c0_i32_35 : BitVec 32 := 0#32
  let v85 : BitVec 1 := Scalar.cmpi .ne v84 c0_i32_35
  v85

def k0_cond3 (v87 : BitVec 32) : BitVec 1 :=
  let c0_i32_36 : BitVec 32 := 0#32
  let v88 : BitVec 1 := Scalar.cmpi .eq v87 c0_i32_36
  let v89 : BitVec 32 := Scalar.extui v88
  let c0_i32_37 : BitVec 32 := 0#32
  let v90 : BitVec 1 := Scalar.cmpi .ne v89 c0_i32_37
  v90

def cc0_transform_0 (k0_off1_inb : ∀ i : grid0.Coords, ∀ a, (k0_off1 i) a + S1.size a ≤ S88.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S88.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S88 : Shape := ⟨1, ![88]⟩
abbrev S1 : Shape := ⟨1, ![1]⟩
abbrev S32768x1152 : Shape := ⟨2, ![32768, 1152]⟩
abbrev S1024 : Shape := ⟨1, ![1024]⟩
abbrev S16x1024x256 : Shape := ⟨3, ![16, 1024, 256]⟩
abbrev S16x256x1024 : Shape := ⟨3, ![16, 256, 1024]⟩
abbrev S32768x1024 : Shape := ⟨2, ![32768, 1024]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x16x256 : Shape := ⟨3, ![32768, 16, 256]⟩
abbrev S32768x16x1 : Shape := ⟨3, ![32768, 16, 1]⟩
abbrev S32768x4096 : Shape := ⟨2, ![32768, 4096]⟩
abbrev S4096x1024 : Shape := ⟨2, ![4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S88, .i32⟩
  | .hbm, ⟨1, _⟩ => ⟨S88, .i32⟩
  | .hbm, ⟨2, _⟩ => ⟨S88, .i32⟩
  | .hbm, ⟨3, _⟩ => ⟨S88, .i32⟩
  | .hbm, ⟨4, _⟩ => ⟨S88, .i32⟩
  | .hbm, ⟨5, _⟩ => ⟨S88, .i32⟩
  | .hbm, ⟨6, _⟩ => ⟨S1, .i32⟩
  | .hbm, ⟨7, _⟩ => ⟨S32768x1152, .f32⟩
  | .hbm, ⟨8, _⟩ => ⟨S1024, .f32⟩
  | .hbm, ⟨9, _⟩ => ⟨S16x1024x256, .f32⟩
  | .hbm, ⟨10, _⟩ => ⟨S16x1024x256, .f32⟩
  | .hbm, ⟨11, _⟩ => ⟨S16x256x1024, .f32⟩
  | .hbm, ⟨12, _⟩ => ⟨S32768x1024, .f32⟩
  | .hbm, ⟨13, _⟩ => ⟨S32768x16, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x16x256, .f32⟩
  | .hbm, ⟨31, _⟩ => ⟨S32768x16x256, .f32⟩
  | .hbm, ⟨32, _⟩ => ⟨S32768x16x256, .f32⟩
  | .hbm, ⟨33, _⟩ => ⟨S32768x16x256, .f32⟩
  | .hbm, ⟨34, _⟩ => ⟨S_, .f32⟩
  | .hbm, ⟨35, _⟩ => ⟨S32768x16x256, .f32⟩
  | .hbm, ⟨36, _⟩ => ⟨S32768x16x256, .f32⟩
  | .hbm, ⟨37, _⟩ => ⟨S_, .f32⟩
  | .hbm, ⟨38, _⟩ => ⟨S32768x16x256, .f32⟩
  | .hbm, ⟨39, _⟩ => ⟨S32768x16x256, .f32⟩
  | .hbm, ⟨40, _⟩ => ⟨S32768x16x256, .f32⟩
  | .hbm, ⟨41, _⟩ => ⟨S32768x16x256, .f32⟩
  | .hbm, ⟨42, _⟩ => ⟨S32768x16x1, .f32⟩
  | .hbm, ⟨43, _⟩ => ⟨S32768x16x256, .f32⟩
  | .hbm, ⟨44, _⟩ => ⟨S32768x16x256, .f32⟩
  | .hbm, ⟨45, _⟩ => ⟨S32768x4096, .f32⟩
  | .hbm, ⟨46, _⟩ => ⟨S4096x1024, .f32⟩
  | .hbm, ⟨47, _⟩ => ⟨S32768x1024, .f32⟩
  | .hbm, ⟨48, _⟩ => ⟨S32768x1024, .f32⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1024 : Shape := ⟨1, ![1024]⟩
abbrev S1024x2048 : Shape := ⟨2, ![1024, 2048]⟩
abbrev S2048 : Shape := ⟨1, ![2048]⟩
abbrev S512x512 : Shape := ⟨2, ![512, 512]⟩
abbrev S512 : Shape := ⟨1, ![512]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1024x108 : Shape := ⟨2, ![1024, 108]⟩
abbrev S1024x128 : Shape := ⟨2, ![1024, 128]⟩
abbrev S1024x256 : Shape := ⟨2, ![1024, 256]⟩
abbrev S108 : Shape := ⟨1, ![108]⟩
abbrev S128 : Shape := ⟨1, ![128]⟩
abbrev S1x128 : Shape := ⟨2, ![1, 128]⟩
abbrev S1x1024 : Shape := ⟨2, ![1, 1024]⟩
abbrev S1x2048 : Shape := ⟨2, ![1, 2048]⟩
abbrev S1x512 : Shape := ⟨2, ![1, 512]⟩
abbrev S512x1024 : Shape := ⟨2, ![512, 1024]⟩
abbrev S32768x1152 : Shape := ⟨2, ![32768, 1152]⟩
abbrev S512x1152 : Shape := ⟨2, ![512, 1152]⟩
abbrev S512x1 : Shape := ⟨2, ![512, 1]⟩
abbrev S512x256 : Shape := ⟨2, ![512, 256]⟩
abbrev S512x128 : Shape := ⟨2, ![512, 128]⟩

abbrev nBuf : Space → Nat
  | .hbm => 52
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S1024x16, .f32⟩
  | .hbm, ⟨14, _⟩ => ⟨S16, .f32⟩
  | .hbm, ⟨15, _⟩ => ⟨S_, .f32⟩
  | .hbm, ⟨16, _⟩ => ⟨S1024x108, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1024x256, .bf16⟩
  | .hbm, ⟨23, _⟩ => ⟨S_, .f32⟩
  | .hbm, ⟨24, _⟩ => ⟨S108, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S512x512, .f32⟩
  | .hbm, ⟨29, _⟩ => ⟨S512x512, .i32⟩
  | .hbm, ⟨30, _⟩ => ⟨S_, .i32⟩
  | .hbm, ⟨31, _⟩ => ⟨S512x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x512, .bf16⟩
  | .hbm, ⟨39, _⟩ => ⟨S1x1024, .f32⟩
  | .hbm, ⟨40, _⟩ => ⟨S1024x2048, .bf16⟩
  | .hbm, ⟨41, _⟩ => ⟨S1x2048, .f32⟩
  | .hbm, ⟨42, _⟩ => ⟨S512x512, .bf16⟩
  | .hbm, ⟨43, _⟩ => ⟨S1x512, .f32⟩
  | .hbm, ⟨44, _⟩ => ⟨S512x1024, .f32⟩
  | .hbm, ⟨45, _⟩ => ⟨S512x1024, .bf16⟩
  | .hbm, ⟨46, _⟩ => ⟨S512x1024, .f32⟩
  | .hbm, ⟨47, _⟩ => ⟨S512x1024, .bf16⟩
  | .hbm, ⟨48, _⟩ => ⟨S1024x1024, .bf16⟩
  | .hbm, ⟨49, _⟩ => ⟨S1x1024, .f32⟩
  | .hbm, ⟨50, _⟩ => ⟨S32768x1152, .f32⟩
  | .hbm, ⟨51, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x512, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x256, .bf16⟩
  | .local _ .vmem, ⟨16, _⟩ => ⟨S1x128, .f32⟩
  | .local _ .vmem, ⟨17, _⟩ => ⟨S512x512, .bf16⟩
  | .local _ .vmem, ⟨18, _⟩ => ⟨S512x1152, .f32⟩
  | .local _ .vmem, ⟨19, _⟩ => ⟨S512x1152, .f32⟩
  | .local _ .vmem, ⟨20, _⟩ => ⟨S1x128, .f32⟩
  | .local _ .vmem, ⟨21, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_cst : Ref sig .tc := ⟨.hbm, 35, rfl⟩
abbrev main_call0_v5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1152 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S32768x1024 : Shape := ⟨2, ![32768, 1024]⟩
abbrev S32768x512 : Shape := ⟨2, ![32768, 512]⟩
abbrev S1024 : Shape := ⟨1, ![1024]⟩
abbrev S1024x2048 : Shape := ⟨2, ![1024, 2048]⟩
abbrev S2048 : Shape := ⟨1, ![2048]⟩
abbrev S512x512 : Shape := ⟨2, ![512, 512]⟩
abbrev S512 : Shape := ⟨1, ![512]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S1x2048 : Shape := ⟨2, ![1, 2048]⟩
abbrev S1x512 : Shape := ⟨2, ![1, 512]⟩
abbrev S512x1024 : Shape := ⟨2, ![512, 1024]⟩
abbrev S32768x1152 : Shape := ⟨2, ![32768, 1152]⟩

abbrev nBuf : Space → Nat
  | .hbm => 89
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S1024x16, .f32⟩
  | .hbm, ⟨14, _⟩ => ⟨S16, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x2048, .f32⟩
  | .hbm, ⟨32, _⟩ => ⟨S1x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768x2048, .f32⟩
  | .hbm, ⟨42, _⟩ => ⟨S32768x2048, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S_, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768x512, .f32⟩
  | .hbm, ⟨56, _⟩ => ⟨S32768x512, .f32⟩
  | .hbm, ⟨57, _⟩ => ⟨S_, .f32⟩
  | .hbm, ⟨58, _⟩ => ⟨S32768x512, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S1x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S_, .f32⟩
  | .hbm, ⟨68, _⟩ => ⟨S32768x512, .f32⟩
  | .hbm, ⟨69, _⟩ => ⟨S32768x512, .f32⟩
  | .hbm, ⟨70, _⟩ => ⟨S_, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x1024, .f32⟩
  | .hbm, ⟨75, _⟩ => ⟨S32768x512, .f32⟩
  | .hbm, ⟨76, _⟩ => ⟨S512x1024, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S512x1024, .f32⟩
  | .hbm, ⟨81, _⟩ => ⟨S32768x1024, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S32768x1024, .f32⟩
  | .hbm, ⟨86, _⟩ => ⟨S_, .i32⟩
  | .hbm, ⟨87, _⟩ => ⟨S_, .f32⟩
  | .hbm, ⟨88, _⟩ => ⟨S32768x1152, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c : Ref sig .tc := ⟨.hbm, 86, rfl⟩
abbrev main_call0_v0 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x512 : Shape := ⟨2, ![1024, 512]⟩
abbrev S16x2048x1024 : Shape := ⟨3, ![16, 2048, 1024]⟩
abbrev S1x1024 : Shape := ⟨2, ![1, 1024]⟩
abbrev S32x256x2048 : Shape := ⟨3, ![32, 256, 2048]⟩
abbrev S8x256x1024 : Shape := ⟨3, ![8, 256, 1024]⟩
abbrev S32x256x128 : Shape := ⟨3, ![32, 256, 128]⟩
abbrev S4x2048x128 : Shape := ⟨3, ![4, 2048, 128]⟩
abbrev S2048x1024 : Shape := ⟨2, ![2048, 1024]⟩
abbrev S2048 : Shape := ⟨1, ![2048]⟩
abbrev S2048x1 : Shape := ⟨2, ![2048, 1]⟩
abbrev S2048x512 : Shape := ⟨2, ![2048, 512]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩
abbrev S16x128 : Shape := ⟨2, ![16, 128]⟩
abbrev S1x16x128 : Shape := ⟨3, ![1, 16, 128]⟩

abbrev nBuf : Space → Nat
  | .hbm => 7
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x512, .f32⟩
  | .hbm, ⟨3, _⟩ => ⟨S16x2048x1024, .f32⟩
  | .hbm, ⟨4, _⟩ => ⟨S1x1024, .f32⟩
  | .hbm, ⟨5, _⟩ => ⟨S1024x512, .bf16⟩
  | .hbm, ⟨6, _⟩ => ⟨S32x256x2048, .bf16⟩
  | .local _ .vmem, ⟨0, _⟩ => ⟨S8x256x1024, .f32⟩
  | .local _ .vmem, ⟨1, _⟩ => ⟨S8x256x1024, .f32⟩
  | .local _ .vmem, ⟨2, _⟩ => ⟨S1x1024, .f32⟩
  | .local _ .vmem, ⟨3, _⟩ => ⟨S1024x512, .bf16⟩
  | .local _ .vmem, ⟨4, _⟩ => ⟨S32x256x128, .bf16⟩
  | .local _ .vmem, ⟨5, _⟩ => ⟨S32x256x128, .bf16⟩
  | .local _ .vmem, ⟨6, _⟩ => ⟨S4x2048x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32768x1024 : Shape := ⟨2, ![32768, 1024]⟩
abbrev S1024 : Shape := ⟨1, ![1024]⟩
abbrev S1024x512 : Shape := ⟨2, ![1024, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x512 : Shape := ⟨2, ![32768, 512]⟩
abbrev S2x8x8x16x16x32x16 : Shape := ⟨7, ![2, 8, 8, 16, 16, 32, 16]⟩
abbrev S32x16x16x8x2x8x16 : Shape := ⟨7, ![32, 16, 16, 8, 2, 8, 16]⟩
abbrev S32x256x2048 : Shape := ⟨3, ![32, 256, 2048]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x512, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x512, .f32⟩
  | .hbm, ⟨20, _⟩ => ⟨S2x8x8x16x16x32x16, .f32⟩
  | .hbm, ⟨21, _⟩ => ⟨S32x16x16x8x2x8x16, .f32⟩
  | .hbm, ⟨22, _⟩ => ⟨S32x256x2048, .f32⟩
  | .hbm, ⟨23, _⟩ => ⟨S32x256x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S32x256x2048 : Shape := ⟨3, ![32, 256, 2048]⟩
abbrev S16x2048x512 : Shape := ⟨3, ![16, 2048, 512]⟩
abbrev S32x256x128 : Shape := ⟨3, ![32, 256, 128]⟩
abbrev S8x256x512 : Shape := ⟨3, ![8, 256, 512]⟩
abbrev S4x2048x128 : Shape := ⟨3, ![4, 2048, 128]⟩
abbrev S1x16x128 : Shape := ⟨3, ![1, 16, 128]⟩
abbrev S16x128 : Shape := ⟨2, ![16, 128]⟩
abbrev S128x128 : Shape := ⟨2, ![128, 128]⟩
abbrev S1x128x128 : Shape := ⟨3, ![1, 128, 128]⟩
abbrev S1x2048x128 : Shape := ⟨3, ![1, 2048, 128]⟩
abbrev S2048x128 : Shape := ⟨2, ![2048, 128]⟩
abbrev S8x256x128 : Shape := ⟨3, ![8, 256, 128]⟩

abbrev nBuf : Space → Nat
  | .hbm => 2
  | .vmem => 5
  | .smem => 0
  | _ => 0

abbrev bufTy : (tb : Table) → Fin (tcTables nBuf tb) → BufTy
  | .hbm, ⟨0, _⟩ => ⟨S32x256x2048, .bf16⟩
  | .hbm, ⟨1, _⟩ => ⟨S16x2048x512, .bf16⟩
  | .local _ .vmem, ⟨0, _⟩ => ⟨S32x256x128, .bf16⟩
  | .local _ .vmem, ⟨1, _⟩ => ⟨S32x256x128, .bf16⟩
  | .local _ .vmem, ⟨2, _⟩ => ⟨S8x256x512, .bf16⟩
  | .local _ .vmem, ⟨3, _⟩ => ⟨S8x256x512, .bf16⟩
  | .local _ .vmem, ⟨4, _⟩ => ⟨S4x2048x128, .f32⟩
  | _, _ => ⟨S32x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S32x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S32x256x2048 : Shape := ⟨3, ![32, 256, 2048]⟩
abbrev S32x16x16x8x2x8x16 : Shape := ⟨7, ![32, 16, 16, 8, 2, 8, 16]⟩
abbrev S2x8x8x16x16x32x16 : Shape := ⟨7, ![2, 8, 8, 16, 16, 32, 16]⟩
abbrev S16x2048x512 : Shape := ⟨3, ![16, 2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S32x256x2048, .bf16⟩
  | .hbm, ⟨1, _⟩ => ⟨S32x16x16x8x2x8x16, .bf16⟩
  | .hbm, ⟨2, _⟩ => ⟨S2x8x8x16x16x32x16, .bf16⟩
  | .hbm, ⟨3, _⟩ => ⟨S16x2048x512, .bf16⟩
  | _, _ => ⟨S32x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Plan.lean ====
module

public import proofs.«01_k».proof.Proof.Gen.Pre_plan_in_range
public import proofs.«01_k».proof.Proof.Gen.Pre_plan_covers
public import Idealize.ShloMosaic.Lib.ReduceAll
public import Idealize.ShloMosaic.Lib.Pointwise
public import Idealize.ShloMosaic.Lib.ValueIdx
public import Idealize.ShloMosaic.Lib.StableHlo.Predicate
public import Idealize.ShloMosaic.Lib.WordCmp

/-! The plan the expert call walks, as plain functions of the item, and what the two preconditions say of it. -/

@[expose] public section

set_option maxRecDepth 16384

noncomputable section

namespace Cert.Moe

open Idealize.ShloMosaic

/-- The plan's seven tables, read at an item: the tile of rows it works on, its two experts, the rows it takes of the
    tile, whether it is the tile's first item, and how many items are in use. -/
structure Plan where
  tile : Fin 88 → BitVec 32
  ea : Fin 88 → BitVec 32
  eb : Fin 88 → BitVec 32
  lo : Fin 88 → BitVec 32
  hi : Fin 88 → BitVec 32
  first : Fin 88 → BitVec 32
  used : BitVec 32

/-- The plan that the tables spell. -/
def planOf (a0 a1 a2 a3 a4 a5 : IVec ⟨1, ![88]⟩ 32) (a6 : IVec ⟨1, ![1]⟩ 32) : Plan :=
  ⟨fun k => a0 (ix1 k), fun k => a1 (ix1 k), fun k => a2 (ix1 k), fun k => a3 (ix1 k), fun k => a4 (ix1 k),
    fun k => a5 (ix1 k), a6 (ix1 0)⟩

namespace Plan

variable (p : Plan)

/-- Item `k` is in use. -/
def valid (k : Fin 88) : Prop := (k.val : Int) < p.used.toInt

instance (k : Fin 88) : Decidable (p.valid k) := by unfold valid; infer_instance

/-- Item `k` takes row `r` of tile `T`. -/
def mine (k : Fin 88) (T : Fin 64) (r : Fin 512) : Prop :=
  p.valid k ∧ (p.tile k).toNat = T.val ∧ (p.lo k).toInt ≤ (r.val : Int) ∧ (r.val : Int) < (p.hi k).toInt

instance (k : Fin 88) (T : Fin 64) (r : Fin 512) : Decidable (p.mine k T r) := by unfold mine; infer_instance

/-- How often item `k` sends row `r` of tile `T` to expert `e`. -/
def hit (k : Fin 88) (T : Fin 64) (r : Fin 512) (e : Fin 16) : ℕ :=
  (if p.mine k T r ∧ (p.ea k).toNat = e.val then 1 else 0) + (if p.mine k T r ∧ (p.eb k).toNat = e.val then 1 else 0)

/-- Every block the plan names exists. -/
structure InRange : Prop where
  tile : ∀ k, (p.tile k).toNat < 64
  ea : ∀ k, (p.ea k).toNat < 16
  eb : ∀ k, (p.eb k).toNat < 16

/-- The plan walks the tiles in order, opens each with a first item in use, and reaches the last. -/
structure Walks : Prop where
  valid0 : p.valid 0
  tile0 : (p.tile 0).toNat = 0
  first0 : p.first 0 = 1#32
  onward : ∀ (k : ℕ) (h : k + 1 < 88),
    ((p.tile ⟨k + 1, h⟩).toNat = (p.tile ⟨k, by omega⟩).toNat + 1 ∧ p.valid ⟨k + 1, h⟩ ∧ p.first ⟨k + 1, h⟩ = 1#32)
    ∨ ((p.tile ⟨k + 1, h⟩).toNat = (p.tile ⟨k, by omega⟩).toNat ∧ (¬ p.valid ⟨k + 1, h⟩ ∨ p.first ⟨k + 1, h⟩ = 0#32))
  last : (p.tile 87).toNat = 63

end Plan

theorem lt_of_bounds {w : BitVec 32} {n : ℕ} (hn : n < 2 ^ 31) (h0 : (0#32).toInt ≤ w.toInt) (h1 : w.toInt < (BitVec.ofNat 32 n).toInt) :
    w.toNat < n := by
  have h2 : (BitVec.ofNat 32 n).toInt = (n : Int) := by
    rw [BitVec.toInt_eq_toNat_cond, BitVec.toNat_ofNat, Nat.mod_eq_of_lt (by omega), if_pos (by omega)]
  rw [h2] at h1
  have h3 : (0#32).toInt = 0 := by decide
  rw [h3] at h0
  rw [BitVec.toInt_eq_toNat_cond] at h0 h1
  split_ifs at h0 h1 <;> omega

section Ranges

variable {F : FTy → Type} [FloatOps F]
variable (a0 a1 a2 a3 a4 a5 : IVec ⟨1, ![88]⟩ 32) (a6 : IVec ⟨1, ![1]⟩ 32) (x7 : FVec F ⟨2, ![32768, 1152]⟩ .f32) (x8 : FVec F ⟨1, ![1024]⟩ .f32)
  (x9 x10 : FVec F ⟨3, ![16, 1024, 256]⟩ .f32) (x11 : FVec F ⟨3, ![16, 256, 1024]⟩ .f32)

theorem inRange_of (h : Cert.Pre_plan_in_range.fn (F := F) a0 a1 a2 a3 a4 a5 a6 x7 x8 x9 x10 x11 = fun _ => 1#1) :
    (planOf a0 a1 a2 a3 a4 a5 a6).InRange := by
  have h := congrFun h (fun a => a.elim0)
  obtain ⟨h12, h2⟩ := IntOp.andi_eq_one.1 h
  obtain ⟨h0, h1⟩ := IntOp.andi_eq_one.1 h12
  refine ⟨fun k => ?_, fun k => ?_, fun k => ?_⟩
  · obtain ⟨hl, hu⟩ := IntOp.andi_eq_one.1 (Host.reduce_andi_all _ _ _ _ _ h0 (ix1 k))
    exact lt_of_bounds (by norm_num) (IntOp.cmpi_sge.1 hl) (IntOp.cmpi_slt.1 hu)
  · obtain ⟨hl, hu⟩ := IntOp.andi_eq_one.1 (Host.reduce_andi_all _ _ _ _ _ h1 (ix1 k))
    exact lt_of_bounds (by norm_num) (IntOp.cmpi_sge.1 hl) (IntOp.cmpi_slt.1 hu)
  · obtain ⟨hl, hu⟩ := IntOp.andi_eq_one.1 (Host.reduce_andi_all _ _ _ _ _ h2 (ix1 k))
    exact lt_of_bounds (by norm_num) (IntOp.cmpi_sge.1 hl) (IntOp.cmpi_slt.1 hu)

end Ranges

end Cert.Moe

end
-- ==== Proof.IdealSetup.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Tactic

/-! The expert call's set-up: the buffers as the pallas_call finds them, the plan's tables read off the launch memory,
    each window's block at a point and the staging memrefs the body is handed there. -/

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers where the call begins: after the four host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program up to the call, at any variants. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- A buffer none of the four host operations writes is found as launched. -/
theorem V_kept (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by assumption)))

/-! ## The tables -/

/-- The tables' contents where the call begins. -/
def tbl : pre0.Contents (Elt F) := fun j => V m (0 : Dev nD) (pre0.ref j)

theorem V_pre (c : Dev nD) (j : Fin 7) : V m c (pre0.ref j) = tbl m j := by
  obtain rfl : c = 0 := Subsingleton.elim _ _; rfl

/-- Every block the tables name lies in its array. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tb0 : Memref sig .tc .smem S88 .i32 := Memref.whole main_arg0
abbrev htb0 : tb0.IsWhole := Memref.isWhole_whole _
abbrev tb1 : Memref sig .tc .smem S88 .i32 := Memref.whole main_arg1
abbrev htb1 : tb1.IsWhole := Memref.isWhole_whole _
abbrev tb2 : Memref sig .tc .smem S88 .i32 := Memref.whole main_arg2
abbrev htb2 : tb2.IsWhole := Memref.isWhole_whole _
abbrev tb3 : Memref sig .tc .smem S88 .i32 := Memref.whole main_arg3
abbrev htb3 : tb3.IsWhole := Memref.isWhole_whole _
abbrev tb4 : Memref sig .tc .smem S88 .i32 := Memref.whole main_arg4
abbrev htb4 : tb4.IsWhole := Memref.isWhole_whole _
abbrev tb5 : Memref sig .tc .smem S88 .i32 := Memref.whole main_arg5
abbrev htb5 : tb5.IsWhole := Memref.isWhole_whole _
abbrev tb6 : Memref sig .tc .smem S1 .i32 := Memref.whole main_arg6
abbrev htb6 : tb6.IsWhole := Memref.isWhole_whole _

/-- A table's buffer held at half, at the contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tb0 (tbl m 0) ∗ tbPt c tb1 (tbl m 1) ∗ tbPt c tb2 (tbl m 2) ∗ tbPt c tb3 (tbl m 3) ∗ tbPt c tb4 (tbl m 4) ∗ tbPt c tb5 (tbl m 5) ∗ tbPt c tb6 (tbl m 6)) := by
  unfold Pipeline.ΦT Pipeline.prefHeld
  rw [show (Finset.univ : Finset (Fin 7)) = insert (0 : Fin 7) (insert (1 : Fin 7) (insert (2 : Fin 7) (insert (3 : Fin 7) (insert (4 : Fin 7) (insert (5 : Fin 7) {(6 : Fin 7)}))))) from by decide,
    bigSep_insert (by decide), bigSep_insert (by decide), bigSep_insert (by decide), bigSep_insert (by decide), bigSep_insert (by decide), bigSep_insert (by decide), bigSep_singleton]
  rfl

/-! ## The windows' blocks and staging memrefs -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev ms0 (hO : Ok m) (t : Fin (cfgM m hO).N) : Memref sig .tc .vmem S512x1152 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x256 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x256 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x256x1024 .bf16 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x256 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1024x256 .bf16 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x256x1024 .bf16 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S512x1024 .f32 := spec0_8.stage ((cfgM m hO).slots t 8)
abbrev hs8 (hO : Ok m) (t : Fin (cfgM m hO).N) : (ms8 m hO t).IsWhole := hstage0_8 (((cfgM m hO).slots t 8).cast nbuf0_8)

/-- The body at point `t`, on what the pipeline calls it with. -/
abbrev bodyAt (hO : Ok m) (t : Fin (cfgM m hO).N) : Prog (TpuEff nD τ sig (Elt F) Λ₀ .tc) PUnit :=
  cc0_moe_experts (grid0.coords t) tb0 htb0 tb1 htb1 tb2 htb2 tb3 htb3 tb4 htb4 tb5 htb5 tb6 htb6 (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t)

end Cert.KernelIdeal.Moe

end
-- ==== Proof.IdealRun.lean ====
module

public import proofs.«01_k».proof.Proof.IdealSetup
public import Idealize.ShloMosaic.Lib.VecWindow

/-! One run of the expert body at symbolic operands: what it leaves in the result's block. -/

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first 1024 lanes of a block of rows. -/
def xLanes (x0 : Vec F S512x1152 .f32) : Vec F S512x1024 .f32 :=
  fun k => x0 ((Rect.unit (s := S512x1152) ![0, 0] S512x1024.size inb_S512x1152_S512x1024_0_0).emb k)
/-- The last 128 lanes of a block of rows: the gates' table. -/
def gLanes (x0 : Vec F S512x1152 .f32) : Vec F S512x128 .f32 :=
  fun k => x0 ((Rect.unit (s := S512x1152) ![0, 1024] S512x128.size inb_S512x1152_S512x128_0_1024).emb k)

/-- The two experts' sum that one item adds: from the rows, the gain, the two experts' weights and the item's words. -/
def moe (x0 : Vec F S512x1152 .f32) (x1 : Vec F S1x1024 .f32) (x2 x3 : Vec F S1x1024x256 .bf16) (x4 : Vec F S1x256x1024 .bf16)
    (x5 x6 : Vec F S1x1024x256 .bf16) (x7 : Vec F S1x256x1024 .bf16) (ea eb lo hi : BitVec 32) : Vec F S512x1024 .f32 :=
  k0_pay8 (gLanes x0) (k0_pay3 (xLanes x0) x1) (iota .tc S512x128 32 [1] iota_S512x128_d1_w32) (k0_pay4 (F := F) lo hi)
    (k0_pay5 (gLanes x0) lo hi ea) (k0_pay6 (xLanes x0) x1 x2) (k0_pay7 x3) x4 eb x5 x6 x7

/-- The word of a plan table at an item. -/
def word (i : grid0.Coords) {c : Dev nD} (M : Memref sig .tc .smem S88 .i32) (xt : TbBuf (F := F) c M) : BitVec 32 :=
  M.view.readAt (Elt F) (Rect.unit (s := S88) (k0_off2 i) S1.size (k0_off2_inb i)).toLoadRect xt (Shape.Idx.first (numel1_S1.symm ▸ Nat.one_pos))
/-- The same word where the body reads it the second time. -/
def word' (i : grid0.Coords) {c : Dev nD} (M : Memref sig .tc .smem S88 .i32) (xt : TbBuf (F := F) c M) : BitVec 32 :=
  M.view.readAt (Elt F) (Rect.unit (s := S88) (k0_off3 i) S1.size (k0_off3_inb i)).toLoadRect xt (Shape.Idx.first (numel1_S1.symm ▸ Nat.one_pos))
/-- The one word of the last table: how many items the plan uses. -/
def word1 {c : Dev nD} (M : Memref sig .tc .smem S1 .i32) (xt : TbBuf (F := F) c M) : BitVec 32 :=
  M.view.readAt (Elt F) (Rect.unit (s := S1) ![0] S1.size inb_S1_S1_0).toLoadRect xt (Shape.Idx.first (numel1_S1.symm ▸ Nat.one_pos))

/-- What the body leaves in the result's block: nothing new past the used items, the rows and the item's sum at a tile's
    first item, what was there and the item's sum at a later one. -/
def step (i : grid0.Coords) (used f f' : BitVec 32) (xl M o : Vec F S512x1024 .f32) : Vec F S512x1024 .f32 :=
  if k0_cond1 i used = 1#1 then
    if k0_cond3 f' = 1#1 then k0_pay2 M (if k0_cond2 f = 1#1 then k0_pay1 xl M else o)
    else if k0_cond2 f = 1#1 then k0_pay1 xl M else o
  else o

set_option maxHeartbeats 1000000 in
theorem run_body (c : Dev nD) (i : grid0.Coords) (a0 : Memref sig .tc .vmem S512x1152 .f32) (ha0 : a0.IsWhole) (a1 : Memref sig .tc .vmem S1x1024 .f32) (ha1 : a1.IsWhole) (a2 : Memref sig .tc .vmem S1x1024x256 .bf16) (ha2 : a2.IsWhole) (a3 : Memref sig .tc .vmem S1x1024x256 .bf16) (ha3 : a3.IsWhole) (a4 : Memref sig .tc .vmem S1x256x1024 .bf16) (ha4 : a4.IsWhole) (a5 : Memref sig .tc .vmem S1x1024x256 .bf16) (ha5 : a5.IsWhole) (a6 : Memref sig .tc .vmem S1x1024x256 .bf16) (ha6 : a6.IsWhole) (a7 : Memref sig .tc .vmem S1x256x1024 .bf16) (ha7 : a7.IsWhole) (a8 : Memref sig .tc .vmem S512x1024 .f32) (ha8 : a8.IsWhole)
    (x0 : Vec F S512x1152 .f32) (x1 : Vec F S1x1024 .f32) (x2 : Vec F S1x1024x256 .bf16) (x3 : Vec F S1x1024x256 .bf16) (x4 : Vec F S1x256x1024 .bf16) (x5 : Vec F S1x1024x256 .bf16) (x6 : Vec F S1x1024x256 .bf16) (x7 : Vec F S1x256x1024 .bf16) (x8 : Vec F S512x1024 .f32) (xt0 : TbBuf (F := F) c tb0) (xt1 : TbBuf (F := F) c tb1) (xt2 : TbBuf (F := F) c tb2) (xt3 : TbBuf (F := F) c tb3) (xt4 : TbBuf (F := F) c tb4) (xt5 : TbBuf (F := F) c tb5) (xt6 : TbBuf (F := F) c tb6) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ tbPt c tb0 xt0 ∗ tbPt c tb1 xt1 ∗ tbPt c tb2 xt2 ∗ tbPt c tb3 xt3 ∗ tbPt c tb4 xt4 ∗ tbPt c tb5 xt5 ∗ tbPt c tb6 xt6
      ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare
          (step i (word1 tb6 xt6) (word i tb5 xt5) (word' i tb5 xt5) (xLanes x0)
            (moe x0 x1 x2 x3 x4 x5 x6 x7 (word i tb1 xt1) (word i tb2 xt2) (word i tb3 xt3) (word i tb4 xt4)) x8) ∗ tbPt c tb0 xt0 ∗ tbPt c tb1 xt1 ∗ tbPt c tb2 xt2 ∗ tbPt c tb3 xt3 ∗ tbPt c tb4 xt4 ∗ tbPt c tb5 xt5 ∗ tbPt c tb6 xt6) -∗ K ⟨⟩))
    ⊢ wp frame (wpE (defs₀ (F := F)) Variants.none c none) E (cc0_moe_experts i tb0 htb0 tb1 htb1 tb2 htb2 tb3 htb3 tb4 htb4 tb5 htb5 tb6 htb6 a0 ha0 a1 ha1 a2 ha2 a3 ha3 a4 ha4 a5 ha5 a6 ha6 a7 ha7 a8 ha8) K := by
  rw [show (owns (c : Thread nD τ) a8 fullShare
          (step i (word1 tb6 xt6) (word i tb5 xt5) (word' i tb5 xt5) (xLanes x0)
            (moe x0 x1 x2 x3 x4 x5 x6 x7 (word i tb1 xt1) (word i tb2 xt2) (word i tb3 xt3) (word i tb4 xt4)) x8) : sProp 𝕄)
      = iprop(∃ f, ⌜a8.view.read (Elt F) f = step i (word1 tb6 xt6) (word i tb5 xt5) (word' i tb5 xt5) (xLanes x0)
            (moe x0 x1 x2 x3 x4 x5 x6 x7 (word i tb1 xt1) (word i tb2 xt2) (word i tb3 xt3) (word i tb4 xt4)) x8⌝
          ∗ (a8.view.loc (c : Thread nD τ) ↦[a8.view.set]{fullShare} f)) from rfl]
  simp only [cc0_moe_experts_eq_skeleton]; unfold cc0_moe_experts_skel
  simp only [k0_part1_eq_skeleton, k0_part2_eq_skeleton]
  simp only [owns_eq_rep]
  iintro ⟨H0, H1, H2, H3, H4, H5, H6, H7, H8, HT0, HT1, HT2, HT3, HT4, HT5, HT6, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro
    have hx : run_body.sl.r_4 a0 x0 = xLanes x0 := View.readAt_rep_unit _ _ _ rfl _
    have hM : run_body.sl.r_13 c i a0 a1 a2 a3 a4 a5 a6 a7 x0 x1 x2 x3 x4 x5 x6 x7 xt1 xt2 xt3 xt4
        = moe x0 x1 x2 x3 x4 x5 x6 x7 (word i tb1 xt1) (word i tb2 xt2) (word i tb3 xt3) (word i tb4 xt4) := by
      delta run_body.sl.r_13 run_body.sl.r_5 run_body.sl.r_6 run_body.sl.r_7 run_body.sl.r_8 run_body.sl.r_9
        run_body.sl.r_10 run_body.sl.r_11 run_body.sl.r_4 run_body.sl.v21
      have e0 : a0.view.readAt (Elt F) (Rect.unit (s := S512x1152) ![0, 0] S512x1024.size inb_S512x1152_S512x1024_0_0).toLoadRect (a0.view.rep x0)
          = xLanes x0 := View.readAt_rep_unit _ _ _ rfl _
      have e0' : a0.view.readAt (Elt F) (Rect.unit (s := S512x1152) ![0, 1024] S512x128.size inb_S512x1152_S512x128_0_1024).toLoadRect (a0.view.rep x0)
          = gLanes x0 := View.readAt_rep_unit _ _ _ rfl _
      have e1 := View.readAt_rep_full a1.view x1 inb_S1x1024_S1x1024_0_0
      have e2 := View.readAt_rep_full a2.view x2 inb_S1x1024x256_S1x1024x256_0_0_0
      have e3 := View.readAt_rep_full a3.view x3 inb_S1x1024x256_S1x1024x256_0_0_0
      have e4 := View.readAt_rep_full a4.view x4 inb_S1x256x1024_S1x256x1024_0_0_0
      have e5 := View.readAt_rep_full a5.view x5 inb_S1x1024x256_S1x1024x256_0_0_0
      have e6 := View.readAt_rep_full a6.view x6 inb_S1x1024x256_S1x1024x256_0_0_0
      have e7 := View.readAt_rep_full a7.view x7 inb_S1x256x1024_S1x256x1024_0_0_0
      unfold moe
      rw [e0, e0', e1, e2, e3, e4, e5, e6, e7]
      rfl
    have hc1 : run_body.sl.r c xt6 = word1 tb6 xt6 := rfl
    have hc2 : run_body.sl.r_12 c i xt5 = word i tb5 xt5 := rfl
    have hc3 : run_body.sl.r_14 c i xt5 = word' i tb5 xt5 := rfl
    have hv : run_body.sl.v91 c i a0 a1 a2 a3 a4 a5 a6 a7 a8 x0 x1 x2 x3 x4 x5 x6 x7 x8 xt1 xt2 xt3 xt4 xt5
        = if k0_cond2 (word i tb5 xt5) = 1#1 then k0_pay1 (xLanes x0)
            (moe x0 x1 x2 x3 x4 x5 x6 x7 (word i tb1 xt1) (word i tb2 xt2) (word i tb3 xt3) (word i tb4 xt4)) else x8 := by
      delta run_body.sl.v91
      rw [hx, hM, hc2]
      by_cases h2 : k0_cond2 (word i tb5 xt5) = 1#1
      · rw [dif_pos h2, if_pos h2]
        exact View.readAt_writes_full a8.view _ inb_S512x1024_S512x1024_0_0 inb_S512x1024_S512x1024_0_0 _ _
      · rw [dif_neg h2, if_neg h2]
        exact View.readAt_rep_full a8.view x8 inb_S512x1024_S512x1024_0_0
    rw [hv, hx, hM, hc1, hc2, hc3]
    unfold step
    by_cases h1 : k0_cond1 i (word1 tb6 xt6) = 1#1
    · rw [dif_pos h1, if_pos h1]
      by_cases h3 : k0_cond3 (word' i tb5 xt5) = 1#1
      · rw [dif_pos h3, if_pos h3]
        exact View.read_writes_full a8.view _ inb_S512x1024_S512x1024_0_0 _ _
      · rw [dif_neg h3, if_neg h3]
        by_cases h2 : k0_cond2 (word i tb5 xt5) = 1#1
        · rw [dif_pos h2, if_pos h2]
          exact View.read_writes_full a8.view _ inb_S512x1024_S512x1024_0_0 _ _
        · rw [dif_neg h2, if_neg h2]
          exact View.read_rep _ _
    · rw [dif_neg h1, if_neg h1]
      exact View.read_rep _ _
  isplitl [HT0]; · iexact HT0
  isplitl [HT1]; · iexact HT1
  isplitl [HT2]; · iexact HT2
  isplitl [HT3]; · iexact HT3
  isplitl [HT4]; · iexact HT4
  isplitl [HT5]; · iexact HT5
  iexact HT6

end Cert.KernelIdeal.Moe

end
-- ==== Proof.IdealFrame.lean ====
module

public import proofs.«01_k».proof.Proof.IdealRun

/-! The expert call's run for any plan in range: every argument ends unchanged, the result at something. -/

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data, the result's block after each point being `out`. -/
def dats (hO : Ok m) (out : Fin (cfgM m hO).N → Vec F S512x1024 .f32) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => out t
  Φ _ := iprop(Pipeline.ΦA spec0 c ∗ Pipeline.ΦT pre0 (tbl m) c)
  q w := Pipeline.shareOf spec0 w
  owed _ := 0

variable (hO : Ok m) (out : Fin (cfgM m hO).N → Vec F S512x1024 .f32) (c : Dev nD)

theorem A_eq (w : Fin (cfgM m hO).W) : (dats m hO out 0 c).A w = V m c (Pipeline.arrRef spec0 w) := by
  dsimp only [dats]

theorem after0 (t : Fin (cfgM m hO).N) : (dats m hO out 0 c).after 0 t = iblk m hO c 0 t := by dsimp only [dats]; try rfl
theorem after1 (t : Fin (cfgM m hO).N) : (dats m hO out 0 c).after 1 t = iblk m hO c 1 t := by dsimp only [dats]; try rfl
theorem after2 (t : Fin (cfgM m hO).N) : (dats m hO out 0 c).after 2 t = iblk m hO c 2 t := by dsimp only [dats]; try rfl
theorem after3 (t : Fin (cfgM m hO).N) : (dats m hO out 0 c).after 3 t = iblk m hO c 3 t := by dsimp only [dats]; try rfl
theorem after4 (t : Fin (cfgM m hO).N) : (dats m hO out 0 c).after 4 t = iblk m hO c 4 t := by dsimp only [dats]; try rfl
theorem after5 (t : Fin (cfgM m hO).N) : (dats m hO out 0 c).after 5 t = iblk m hO c 5 t := by dsimp only [dats]; try rfl
theorem after6 (t : Fin (cfgM m hO).N) : (dats m hO out 0 c).after 6 t = iblk m hO c 6 t := by dsimp only [dats]; try rfl
theorem after7 (t : Fin (cfgM m hO).N) : (dats m hO out 0 c).after 7 t = iblk m hO c 7 t := by dsimp only [dats]; try rfl
theorem after8 (t : Fin (cfgM m hO).N) : (dats m hO out 0 c).after 8 t = out t := by dsimp only [dats]; try rfl

theorem before0 (t : Fin (cfgM m hO).N) (d) : (dats m hO out 0 c).before 0 t d = iblk m hO c 0 t :=
  before0_of m hO (dats m hO out 0 c) (A_eq m hO out c 0) (after0 m hO out c) t d
theorem before1 (t : Fin (cfgM m hO).N) (d) : (dats m hO out 0 c).before 1 t d = iblk m hO c 1 t :=
  before1_of m hO (dats m hO out 0 c) (A_eq m hO out c 1) (after1 m hO out c) t d
theorem before2 (t : Fin (cfgM m hO).N) (d) : (dats m hO out 0 c).before 2 t d = iblk m hO c 2 t :=
  before2_of m hO (dats m hO out 0 c) (A_eq m hO out c 2) (after2 m hO out c) t d
theorem before3 (t : Fin (cfgM m hO).N) (d) : (dats m hO out 0 c).before 3 t d = iblk m hO c 3 t :=
  before3_of m hO (dats m hO out 0 c) (A_eq m hO out c 3) (after3 m hO out c) t d
theorem before4 (t : Fin (cfgM m hO).N) (d) : (dats m hO out 0 c).before 4 t d = iblk m hO c 4 t :=
  before4_of m hO (dats m hO out 0 c) (A_eq m hO out c 4) (after4 m hO out c) t d
theorem before5 (t : Fin (cfgM m hO).N) (d) : (dats m hO out 0 c).before 5 t d = iblk m hO c 5 t :=
  before5_of m hO (dats m hO out 0 c) (A_eq m hO out c 5) (after5 m hO out c) t d
theorem before6 (t : Fin (cfgM m hO).N) (d) : (dats m hO out 0 c).before 6 t d = iblk m hO c 6 t :=
  before6_of m hO (dats m hO out 0 c) (A_eq m hO out c 6) (after6 m hO out c) t d
theorem before7 (t : Fin (cfgM m hO).N) (d) : (dats m hO out 0 c).before 7 t d = iblk m hO c 7 t :=
  before7_of m hO (dats m hO out 0 c) (A_eq m hO out c 7) (after7 m hO out c) t d

/-- What the body makes of the result's block at point `t`. -/
def stepAt (t : Fin (cfgM m hO).N) (o : Vec F S512x1024 .f32) : Vec F S512x1024 .f32 :=
  step (grid0.coords t) (word1 (c := c) tb6 (tbl m 6)) (word (grid0.coords t) (c := c) tb5 (tbl m 5)) (word' (grid0.coords t) (c := c) tb5 (tbl m 5))
    (xLanes (iblk m hO c 0 t))
    (moe (iblk m hO c 0 t) (iblk m hO c 1 t) (iblk m hO c 2 t) (iblk m hO c 3 t) (iblk m hO c 4 t) (iblk m hO c 5 t) (iblk m hO c 6 t) (iblk m hO c 7 t) (word (grid0.coords t) (c := c) tb1 (tbl m 1)) (word (grid0.coords t) (c := c) tb2 (tbl m 2))
      (word (grid0.coords t) (c := c) tb3 (tbl m 3)) (word (grid0.coords t) (c := c) tb4 (tbl m 4))) o

/-- Everything the body is handed at point `t` but the result's block, -/
def pre8 (t : Fin (cfgM m hO).N) : sProp 𝕄 :=
  iprop((dats m hO out 0 c).Φ t.castSucc ∗ (dats m hO out 0 c).owesAt () t.castSucc
    ∗ (∃ d, owns (c : Thread nD τ) (ms0 m hO t) fullShare ((dats m hO out 0 c).before 0 t d))
    ∗ (∃ d, owns (c : Thread nD τ) (ms1 m hO t) fullShare ((dats m hO out 0 c).before 1 t d))
    ∗ (∃ d, owns (c : Thread nD τ) (ms2 m hO t) fullShare ((dats m hO out 0 c).before 2 t d))
    ∗ (∃ d, owns (c : Thread nD τ) (ms3 m hO t) fullShare ((dats m hO out 0 c).before 3 t d))
    ∗ (∃ d, owns (c : Thread nD τ) (ms4 m hO t) fullShare ((dats m hO out 0 c).before 4 t d))
    ∗ (∃ d, owns (c : Thread nD τ) (ms5 m hO t) fullShare ((dats m hO out 0 c).before 5 t d))
    ∗ (∃ d, owns (c : Thread nD τ) (ms6 m hO t) fullShare ((dats m hO out 0 c).before 6 t d))
    ∗ (∃ d, owns (c : Thread nD τ) (ms7 m hO t) fullShare ((dats m hO out 0 c).before 7 t d)))
/-- and everything it hands back but that block. -/
def post8 (t : Fin (cfgM m hO).N) : sProp 𝕄 :=
  iprop((dats m hO out 0 c).Φ t.succ ∗ (dats m hO out 0 c).owesAt () t.succ
    ∗ owns (c : Thread nD τ) (ms0 m hO t) fullShare ((dats m hO out 0 c).after 0 t)
    ∗ owns (c : Thread nD τ) (ms1 m hO t) fullShare ((dats m hO out 0 c).after 1 t)
    ∗ owns (c : Thread nD τ) (ms2 m hO t) fullShare ((dats m hO out 0 c).after 2 t)
    ∗ owns (c : Thread nD τ) (ms3 m hO t) fullShare ((dats m hO out 0 c).after 3 t)
    ∗ owns (c : Thread nD τ) (ms4 m hO t) fullShare ((dats m hO out 0 c).after 4 t)
    ∗ owns (c : Thread nD τ) (ms5 m hO t) fullShare ((dats m hO out 0 c).after 5 t)
    ∗ owns (c : Thread nD τ) (ms6 m hO t) fullShare ((dats m hO out 0 c).after 6 t)
    ∗ owns (c : Thread nD τ) (ms7 m hO t) fullShare ((dats m hO out 0 c).after 7 t))

set_option maxHeartbeats 1600000 in
theorem sound_step (t : Fin (cfgM m hO).N) (X : Vec F S512x1024 .f32) :
    iprop(pre8 m hO out c t ∗ owns (c : Thread nD τ) (ms8 m hO t) fullShare X)
      ⊢ wp frame (wpE (defs₀ (F := F)) Variants.none c none) Set.univ (bodyAt m hO t)
          (fun _ => iprop(post8 m hO out c t ∗ owns (c : Thread nD τ) (ms8 m hO t) fullShare (stepAt m hO c t X))) := by
  unfold pre8 post8 bodyAt stepAt
  simp only [before0, before1, before2, before3, before4, before5, before6, before7]
  rw [show (dats m hO out 0 c).Φ t.succ = (dats m hO out 0 c).Φ t.castSucc from rfl,
    show (dats m hO out 0 c).owesAt () t.succ = (dats m hO out 0 c).owesAt () t.castSucc from rfl,
    after0, after1, after2, after3, after4, after5, after6, after7]
  rw [show (dats m hO out 0 c).Φ t.castSucc = iprop(Pipeline.ΦA spec0 c ∗ Pipeline.ΦT pre0 (tbl m) c) from rfl, PhiT_eq]
  iintro ⟨⟨⟨HΦ, ⟨HT0, HT1, HT2, HT3, HT4, HT5, HT6⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩, H8⟩
  iapply (run_body c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) X (tbl m 0) (tbl m 1) (tbl m 2) (tbl m 3) (tbl m 4) (tbl m 5) (tbl m 6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  iintro ⟨H0, H1, H2, H3, H4, H5, H6, H7, H8, HT0, HT1, HT2, HT3, HT4, HT5, HT6⟩
  isplitr [H8]; swap
  · iexact H8
  isplitl [HΦ HT0 HT1 HT2 HT3 HT4 HT5 HT6]
  · isplitl [HΦ]
    · iexact HΦ
    isplitl [HT0]; · iexact HT0
    isplitl [HT1]; · iexact HT1
    isplitl [HT2]; · iexact HT2
    isplitl [HT3]; · iexact HT3
    isplitl [HT4]; · iexact HT4
    isplitl [HT5]; · iexact HT5
    iexact HT6
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (t : Fin (cfgM m hO).N) :
    defs₀ (F := F) .tc (cfgM m hO).body ((cfgM m hO).bodyArgs t ((cfgM m hO).slots t)) = bodyAt m hO t := by
  unfold defs₀; rw [Defs.onTc_tc]

/-! ## The run with the result forgotten -/

/-- Only the result's window is forgotten. -/
def forgets : Fin 9 → Bool := fun w => w.val == 8

def lpre (t : Fin (cfgM m hO).N) : sProp 𝕄 :=
  iprop((dats m hO out 0 c).Φ t.castSucc ∗ (dats m hO out 0 c).owesAt () t.castSucc
    ∗ (∃ d, owns (c : Thread nD τ) (ms0 m hO t) fullShare ((dats m hO out 0 c).before 0 t d))
    ∗ (∃ d, owns (c : Thread nD τ) (ms1 m hO t) fullShare ((dats m hO out 0 c).before 1 t d))
    ∗ (∃ d, owns (c : Thread nD τ) (ms2 m hO t) fullShare ((dats m hO out 0 c).before 2 t d))
    ∗ (∃ d, owns (c : Thread nD τ) (ms3 m hO t) fullShare ((dats m hO out 0 c).before 3 t d))
    ∗ (∃ d, owns (c : Thread nD τ) (ms4 m hO t) fullShare ((dats m hO out 0 c).before 4 t d))
    ∗ (∃ d, owns (c : Thread nD τ) (ms5 m hO t) fullShare ((dats m hO out 0 c).before 5 t d))
    ∗ (∃ d, owns (c : Thread nD τ) (ms6 m hO t) fullShare ((dats m hO out 0 c).before 6 t d))
    ∗ (∃ d, owns (c : Thread nD τ) (ms7 m hO t) fullShare ((dats m hO out 0 c).before 7 t d))
    ∗ (∃ d, owns (c : Thread nD τ) (ms8 m hO t) fullShare d))
def lpost (t : Fin (cfgM m hO).N) : sProp 𝕄 :=
  iprop((dats m hO out 0 c).Φ t.succ ∗ (dats m hO out 0 c).owesAt () t.succ
    ∗ owns (c : Thread nD τ) (ms0 m hO t) fullShare ((dats m hO out 0 c).after 0 t)
    ∗ owns (c : Thread nD τ) (ms1 m hO t) fullShare ((dats m hO out 0 c).after 1 t)
    ∗ owns (c : Thread nD τ) (ms2 m hO t) fullShare ((dats m hO out 0 c).after 2 t)
    ∗ owns (c : Thread nD τ) (ms3 m hO t) fullShare ((dats m hO out 0 c).after 3 t)
    ∗ owns (c : Thread nD τ) (ms4 m hO t) fullShare ((dats m hO out 0 c).after 4 t)
    ∗ owns (c : Thread nD τ) (ms5 m hO t) fullShare ((dats m hO out 0 c).after 5 t)
    ∗ owns (c : Thread nD τ) (ms6 m hO t) fullShare ((dats m hO out 0 c).after 6 t)
    ∗ owns (c : Thread nD τ) (ms7 m hO t) fullShare ((dats m hO out 0 c).after 7 t)
    ∗ (∃ d, owns (c : Thread nD τ) (ms8 m hO t) fullShare d))

theorem sound_loose (t : Fin (cfgM m hO).N) :
    lpre m hO out c t ⊢ wp frame (wpE (defs₀ (F := F)) Variants.none c none) Set.univ (bodyAt m hO t) (fun _ => lpost m hO out c t) := by
  have h : ∀ X, iprop(pre8 m hO out c t ∗ owns (c : Thread nD τ) (ms8 m hO t) fullShare X)
      ⊢ wp frame (wpE (defs₀ (F := F)) Variants.none c none) Set.univ (bodyAt m hO t) (fun _ => lpost m hO out c t) := fun X =>
    (sound_step m hO out c t X).trans (wp_mono _ _ _ fun _ => by
      unfold post8 lpost
      iintro ⟨⟨HΦ, Ho, H0, H1, H2, H3, H4, H5, H6, H7⟩, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8)
  unfold lpre
  iintro ⟨HΦ, Ho, H0, H1, H2, H3, H4, H5, H6, H7, ⟨%X, H8⟩⟩
  iapply (h X)
  unfold pre8
  isplitr [H8]; swap
  · iexact H8
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem loose_obligation : BodyObligation (dats (F := F) m hO out 0 c) (defs₀ (F := F)) Variants.none () Set.univ forgets := fun t => by
  rw [bigSep_W0, bigSep_W0, row m hO]
  exact triple_restated (sound_loose m hO out c t) rfl .rfl fun _ => .rfl

/-- What a run says of the arguments. -/
def Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)

set_option backward.isDefEq.respectTransparency.types false in
theorem run_loose (hO : Ok m) : θ_run defs (onTc (τ := τ) (main (F := F))) (s₀ m ρ)
    (fun r => (Pipeline.RDat.FramePost ((Pipeline.pin pcfgs fun _ => adm m hO) 0) (fun c => (dats m hO (fun _ => broadcast S512x1024 (Scalar.ofBits .f32 0x00000000#32)) 0 c).toRForget forgets) (V m)) r ∧ r.2.sem = fun _ => 0) :=
  Pipeline.θ_run_frameP_forget_shared (Q' := _) pcfgs (fun _ => adm m hO) (dats m hO (fun _ => broadcast S512x1024 (Scalar.ofBits .f32 0x00000000#32))) (0 : Fin 1) launch₀0 defs₀ Variants.none forgets m ρ main
    (hbody := fun c => (loose_obligation m hO _ c).loose) (hq := fun _ _ _ => rfl)
    (howed := fun _ _ => rfl) (V := V m) (hmain := hmain m Variants.none) (hA := A_eq m hO _) (hpf := V_pre m) (hΦ := fun _ _ => rfl)

/-- Every run ends with the arguments as they were and every semaphore at zero. -/
theorem frame_run (hO : Ok m) : θ_run defs (onTc (τ := τ) (main (F := F))) ⟨m, fun _ => 0, ρ⟩ (fun r => Kept m r ∧ r.2.sem = fun _ => 0) :=
  (θ_run defs _ _).mono (fun _ h => ⟨fun c => ⟨((h.1 c).2 main_arg0 (by decide : main_arg0 ∈ Pipeline.restRefs sig spec0)).trans (V_kept m c main_arg0 (by decide) (by decide) (by decide) (by decide)),
    ((h.1 c).2 main_arg1 (by decide : main_arg1 ∈ Pipeline.restRefs sig spec0)).trans (V_kept m c main_arg1 (by decide) (by decide) (by decide) (by decide)),
    ((h.1 c).2 main_arg2 (by decide : main_arg2 ∈ Pipeline.restRefs sig spec0)).trans (V_kept m c main_arg2 (by decide) (by decide) (by decide) (by decide)),
    ((h.1 c).2 main_arg3 (by decide : main_arg3 ∈ Pipeline.restRefs sig spec0)).trans (V_kept m c main_arg3 (by decide) (by decide) (by decide) (by decide)),
    ((h.1 c).2 main_arg4 (by decide : main_arg4 ∈ Pipeline.restRefs sig spec0)).trans (V_kept m c main_arg4 (by decide) (by decide) (by decide) (by decide)),
    ((h.1 c).2 main_arg5 (by decide : main_arg5 ∈ Pipeline.restRefs sig spec0)).trans (V_kept m c main_arg5 (by decide) (by decide) (by decide) (by decide)),
    ((h.1 c).2 main_arg6 (by decide : main_arg6 ∈ Pipeline.restRefs sig spec0)).trans (V_kept m c main_arg6 (by decide) (by decide) (by decide) (by decide)),
    (Pipeline.RDat.FramePost.arr_in h.1 c 0 rfl).trans ((A_eq m hO (fun _ => broadcast S512x1024 (Scalar.ofBits .f32 0x00000000#32)) c 0).trans (V_kept m c main_arg7 (by decide) (by decide) (by decide) (by decide))),
    ((h.1 c).2 main_arg8 (by decide : main_arg8 ∈ Pipeline.restRefs sig spec0)).trans (V_kept m c main_arg8 (by decide) (by decide) (by decide) (by decide)),
    ((h.1 c).2 main_arg9 (by decide : main_arg9 ∈ Pipeline.restRefs sig spec0)).trans (V_kept m c main_arg9 (by decide) (by decide) (by decide) (by decide)),
    ((h.1 c).2 main_arg10 (by decide : main_arg10 ∈ Pipeline.restRefs sig spec0)).trans (V_kept m c main_arg10 (by decide) (by decide) (by decide) (by decide)),
    ((h.1 c).2 main_arg11 (by decide : main_arg11 ∈ Pipeline.restRefs sig spec0)).trans (V_kept m c main_arg11 (by decide) (by decide) (by decide) (by decide))⟩, h.2⟩) (run_loose m ρ hO)

end Cert.KernelIdeal.Moe

end
-- ==== Proof.IdealOk.lean ====
module

public import proofs.«01_k».proof.Proof.IdealSetup
public import proofs.«01_k».proof.Proof.Plan

/-! With the plan in range, every block an index map names lies in its array. -/

@[expose] public section

set_option maxRecDepth 16384

noncomputable section

namespace Cert.KernelIdeal.Moe

open Cert.KernelIdeal.Gen
open Idealize.ShloMosaic Idealize.ShloMosaic.TcCoe

variable {F : FTy → Type} [FloatOps F]
variable (m : (ℓ : Loc nD τ sig) → Buf (Elt F) ℓ)

/-- The plan in the launch memory. -/
def plan : Cert.Moe.Plan :=
  Cert.Moe.planOf (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6))

theorem tbl0 : tbl m 0 = m (((0 : Dev nD).tc : Thread nD τ).loc main_arg0) := V_kept m 0 main_arg0 (by decide) (by decide) (by decide) (by decide)
theorem tbl1 : tbl m 1 = m (((0 : Dev nD).tc : Thread nD τ).loc main_arg1) := V_kept m 0 main_arg1 (by decide) (by decide) (by decide) (by decide)
theorem tbl2 : tbl m 2 = m (((0 : Dev nD).tc : Thread nD τ).loc main_arg2) := V_kept m 0 main_arg2 (by decide) (by decide) (by decide) (by decide)
theorem tbl3 : tbl m 3 = m (((0 : Dev nD).tc : Thread nD τ).loc main_arg3) := V_kept m 0 main_arg3 (by decide) (by decide) (by decide) (by decide)
theorem tbl4 : tbl m 4 = m (((0 : Dev nD).tc : Thread nD τ).loc main_arg4) := V_kept m 0 main_arg4 (by decide) (by decide) (by decide) (by decide)
theorem tbl5 : tbl m 5 = m (((0 : Dev nD).tc : Thread nD τ).loc main_arg5) := V_kept m 0 main_arg5 (by decide) (by decide) (by decide) (by decide)
theorem tbl6 : tbl m 6 = m (((0 : Dev nD).tc : Thread nD τ).loc main_arg6) := V_kept m 0 main_arg6 (by decide) (by decide) (by decide) (by decide)

/-- A point's item. -/
abbrev item (i : grid0.Coords) : Fin 88 := ⟨(i 0).val, (i 0).isLt⟩

theorem off1_eq (i : grid0.Coords) : (BitVec.ofNat 32 (i 0).val).toNat = (i 0).val := by
  have h : (i 0).val < 88 := (i 0).isLt
  rw [BitVec.toNat_ofNat, Nat.mod_eq_of_lt (by omega)]

/-- The one entry of a table that a load at the point's own number reads. -/
theorem entry (i : grid0.Coords) (off : Fin 1 → Nat) (hoff : off 0 = (i 0).val) (inb : ∀ a, off a + S1.size a ≤ S88.size a) (h1 : 0 < (Rect.unit (s := S88) off S1.size inb).shape.numel) :
    (Rect.unit (s := S88) off S1.size inb).emb (Shape.Idx.first h1) = ix1 (item i) := by
  funext a
  match a with
  | ⟨0, _⟩ => exact Fin.ext (show off 0 + 1 * 0 = (i 0).val by rw [hoff]; omega)

theorem at0 (i : grid0.Coords) (h) (h1) : ((tbl m).at 0 (Rect.unit (s := S88) ![(BitVec.ofNat 32 (i 0).val).toNat] S1.size h) h1 : BitVec 32) = (plan m).tile (item i) :=
  (congrArg (fun y : S88.Idx => (tbl m 0 : IVec S88 32) y) (entry i _ (off1_eq i) h _)).trans (congrFun (tbl0 m) (ix1 (item i)))
theorem at1 (i : grid0.Coords) (h) (h1) : ((tbl m).at 1 (Rect.unit (s := S88) ![(BitVec.ofNat 32 (i 0).val).toNat] S1.size h) h1 : BitVec 32) = (plan m).ea (item i) :=
  (congrArg (fun y : S88.Idx => (tbl m 1 : IVec S88 32) y) (entry i _ (off1_eq i) h _)).trans (congrFun (tbl1 m) (ix1 (item i)))
theorem at2 (i : grid0.Coords) (h) (h1) : ((tbl m).at 2 (Rect.unit (s := S88) ![(BitVec.ofNat 32 (i 0).val).toNat] S1.size h) h1 : BitVec 32) = (plan m).eb (item i) :=
  (congrArg (fun y : S88.Idx => (tbl m 2 : IVec S88 32) y) (entry i _ (off1_eq i) h _)).trans (congrFun (tbl2 m) (ix1 (item i)))

/-- The block of rows a point works on. -/
theorem ix_tile (i : grid0.Coords) : cc0_transform_0 k0_off1_inb numel1_S1 (tbl m) i = ![((plan m).tile (item i)).toNat, 0] := by
  unfold cc0_transform_0; exact congrArg (fun w : BitVec 32 => ![w.toNat, 0]) (at0 m i _ _)
theorem ix_out (i : grid0.Coords) : cc0_transform_8 k0_off1_inb numel1_S1 (tbl m) i = ![((plan m).tile (item i)).toNat, 0] := by
  unfold cc0_transform_8; exact congrArg (fun w : BitVec 32 => ![w.toNat, 0]) (at0 m i _ _)
theorem ix_ga (i : grid0.Coords) : cc0_transform_2 k0_off1_inb numel1_S1 (tbl m) i = ![((plan m).ea (item i)).toNat, 0, 0] := by
  unfold cc0_transform_2; exact congrArg (fun w : BitVec 32 => ![w.toNat, 0, 0]) (at1 m i _ _)
theorem ix_ua (i : grid0.Coords) : cc0_transform_3 k0_off1_inb numel1_S1 (tbl m) i = ![((plan m).ea (item i)).toNat, 0, 0] := by
  unfold cc0_transform_3; exact congrArg (fun w : BitVec 32 => ![w.toNat, 0, 0]) (at1 m i _ _)
theorem ix_da (i : grid0.Coords) : cc0_transform_4 k0_off1_inb numel1_S1 (tbl m) i = ![((plan m).ea (item i)).toNat, 0, 0] := by
  unfold cc0_transform_4; exact congrArg (fun w : BitVec 32 => ![w.toNat, 0, 0]) (at1 m i _ _)
theorem ix_gb (i : grid0.Coords) : cc0_transform_5 k0_off1_inb numel1_S1 (tbl m) i = ![((plan m).eb (item i)).toNat, 0, 0] := by
  unfold cc0_transform_5; exact congrArg (fun w : BitVec 32 => ![w.toNat, 0, 0]) (at2 m i _ _)
theorem ix_ub (i : grid0.Coords) : cc0_transform_6 k0_off1_inb numel1_S1 (tbl m) i = ![((plan m).eb (item i)).toNat, 0, 0] := by
  unfold cc0_transform_6; exact congrArg (fun w : BitVec 32 => ![w.toNat, 0, 0]) (at2 m i _ _)
theorem ix_db (i : grid0.Coords) : cc0_transform_7 k0_off1_inb numel1_S1 (tbl m) i = ![((plan m).eb (item i)).toNat, 0, 0] := by
  unfold cc0_transform_7; exact congrArg (fun w : BitVec 32 => ![w.toNat, 0, 0]) (at2 m i _ _)

theorem fits2 {n : ℕ} (f : Fin 2 → ℕ) (hf : f = ![n, 0]) (hn : n < 64) (w : ℕ) : ∀ a, (f a + 1) * (⟨2, ![512, w]⟩ : Shape).size a ≤ (⟨2, ![32768, w]⟩ : Shape).size a := by
  subst hf
  intro a
  match a with
  | ⟨0, _⟩ => exact (show (n + 1) * 512 ≤ 32768 by omega)
  | ⟨1, _⟩ => exact (show (0 + 1) * w ≤ w by omega)

theorem fits3 {n : ℕ} (f : Fin 3 → ℕ) (hf : f = ![n, 0, 0]) (hn : n < 16) (b w : ℕ) : ∀ a, (f a + 1) * (⟨3, ![1, b, w]⟩ : Shape).size a ≤ (⟨3, ![16, b, w]⟩ : Shape).size a := by
  subst hf
  intro a
  match a with
  | ⟨0, _⟩ => exact (show (n + 1) * 1 ≤ 16 by omega)
  | ⟨1, _⟩ => exact (show (0 + 1) * b ≤ b by omega)
  | ⟨2, _⟩ => exact (show (0 + 1) * w ≤ w by omega)

theorem rows3 {n : ℕ} (f : Fin 3 → ℕ) (hf : f = ![n, 0, 0]) (p b w : ℕ) (inb : ∀ a, (f a + 1) * (⟨3, ![1, b, w]⟩ : Shape).size a ≤ (⟨3, ![16, b, w]⟩ : Shape).size a) :
    (Rect.block (s := ⟨3, ![16, b, w]⟩) (⟨3, ![1, b, w]⟩ : Shape).size f inb).WholeWords p := by
  subst hf
  exact .inr ⟨Nat.le_succ 2, rfl, (show 0 * b = 0 by omega), rfl⟩

theorem ok_of (h : (plan m).InRange) : Ok m :=
  ⟨fun i => ⟨fits2 _ (ix_tile m i) (h.tile _) 1152, .inl rfl⟩,
    fun i => ⟨fits3 _ (ix_ga m i) (h.ea _) 1024 256, .inr (rows3 _ (ix_ga m i) _ 1024 256 _)⟩,
    fun i => ⟨fits3 _ (ix_ua m i) (h.ea _) 1024 256, .inr (rows3 _ (ix_ua m i) _ 1024 256 _)⟩,
    fun i => ⟨fits3 _ (ix_da m i) (h.ea _) 256 1024, .inr (rows3 _ (ix_da m i) _ 256 1024 _)⟩,
    fun i => ⟨fits3 _ (ix_gb m i) (h.eb _) 1024 256, .inr (rows3 _ (ix_gb m i) _ 1024 256 _)⟩,
    fun i => ⟨fits3 _ (ix_ub m i) (h.eb _) 1024 256, .inr (rows3 _ (ix_ub m i) _ 1024 256 _)⟩,
    fun i => ⟨fits3 _ (ix_db m i) (h.eb _) 256 1024, .inr (rows3 _ (ix_db m i) _ 256 1024 _)⟩,
    fun i => ⟨fits2 _ (ix_out m i) (h.tile _) 1024, .inl rfl⟩⟩

end Cert.KernelIdeal.Moe

end
-- ==== Proof.PlanCovers.lean ====
module

public import proofs.«01_k».proof.Proof.Plan

/-! What the covering precondition says: the plan is in range, walks the tiles, and sends each row to each expert it has a gate for exactly once. -/

@[expose] public section

set_option maxRecDepth 16384

noncomputable section

namespace Cert.Moe

open Idealize.ShloMosaic

/-- Row `r` of tile `T`. -/
def rowOf (T : Fin 64) (r : Fin 512) : Fin 32768 := ⟨T.val * 512 + r.val, by have := T.isLt; have := r.isLt; omega⟩

/-- The lane that carries expert `e`'s gate. -/
def gateLane (e : Fin 16) : Fin 1152 := ⟨1024 + e.val, by have := e.isLt; omega⟩

/-- Each row goes exactly once to every expert it has a gate for. -/
def Plan.Once (p : Plan) (xs : FVec Ideal ⟨2, ![32768, 1152]⟩ .f32) : Prop :=
  ∀ (T : Fin 64) (r : Fin 512) (e : Fin 16), xs (ix2 (rowOf T r) (gateLane e)) = 0 ∨ ∑ k : Fin 88, p.hit k T r e = 1

variable (a0 a1 a2 a3 a4 a5 : IVec ⟨1, ![88]⟩ 32) (a6 : IVec ⟨1, ![1]⟩ 32) (x7 : FVec Ideal ⟨2, ![32768, 1152]⟩ .f32) (x8 : FVec Ideal ⟨1, ![1024]⟩ .f32)
  (x9 x10 : FVec Ideal ⟨3, ![16, 1024, 256]⟩ .f32) (x11 : FVec Ideal ⟨3, ![16, 256, 1024]⟩ .f32)

/-- The parts the precondition is the conjunction of. -/
theorem parts (h : Cert.Pre_plan_covers.fn (F := Ideal) a0 a1 a2 a3 a4 a5 a6 x7 x8 x9 x10 x11 = fun _ => 1#1) :
    Cert.Pre_plan_in_range.fn (F := Ideal) a0 a1 a2 a3 a4 a5 a6 x7 x8 x9 x10 x11 = fun _ => 1#1 := by
  have h := congrFun h (fun a => a.elim0)
  obtain ⟨h95, h101⟩ := IntOp.andi_eq_one.1 h
  obtain ⟨h94, h59⟩ := IntOp.andi_eq_one.1 h95
  obtain ⟨h93, h56⟩ := IntOp.andi_eq_one.1 h94
  obtain ⟨h19, h33⟩ := IntOp.andi_eq_one.1 h93
  funext j
  obtain rfl : j = fun a => a.elim0 := Subsingleton.elim _ _
  exact h19

theorem toNat_ofNat_of_lt {n : ℕ} (h : n < 2 ^ 32) : (BitVec.ofNat 32 n).toNat = n := by
  rw [BitVec.toNat_ofNat, Nat.mod_eq_of_lt h]

theorem toInt_ofNat_of_lt {n : ℕ} (h : n < 2 ^ 31) : (BitVec.ofNat 32 n).toInt = (n : Int) := by
  rw [BitVec.toInt_eq_toNat_cond, BitVec.toNat_ofNat, Nat.mod_eq_of_lt (by omega), if_pos (by omega)]

theorem succ_toNat {v w : BitVec 32} (hw : w.toNat < 64) (h : v = w + 1#32) : v.toNat = w.toNat + 1 := by
  subst h; rw [BitVec.toNat_add]; show (w.toNat + 1) % 2 ^ 32 = _; omega

theorem walks_of (h : Cert.Pre_plan_covers.fn (F := Ideal) a0 a1 a2 a3 a4 a5 a6 x7 x8 x9 x10 x11 = fun _ => 1#1) :
    (planOf a0 a1 a2 a3 a4 a5 a6).Walks := by
  have hr := inRange_of a0 a1 a2 a3 a4 a5 a6 x7 x8 x9 x10 x11 (parts a0 a1 a2 a3 a4 a5 a6 x7 x8 x9 x10 x11 h)
  have h := congrFun h (fun a => a.elim0)
  obtain ⟨h95, h101⟩ := IntOp.andi_eq_one.1 h
  obtain ⟨h94, h59⟩ := IntOp.andi_eq_one.1 h95
  obtain ⟨h93, h56⟩ := IntOp.andi_eq_one.1 h94
  obtain ⟨h19, h33⟩ := IntOp.andi_eq_one.1 h93
  obtain ⟨h29, h32⟩ := IntOp.andi_eq_one.1 h33
  obtain ⟨h25, h28⟩ := IntOp.andi_eq_one.1 h29
  pointwise at h25
  pointwise at h28
  pointwise at h32
  pointwise at h59
  refine ⟨IntOp.cmpi_slt.1 h25, congrArg BitVec.toNat (IntOp.cmpi_eq.1 h28), IntOp.cmpi_eq.1 h32, fun k hk => ?_, congrArg BitVec.toNat (IntOp.cmpi_eq.1 h59)⟩
  have e := Host.reduce_andi_all _ _ _ _ _ h56 (ix1 ⟨k, by omega⟩)
  pointwise at e
  have hk' : (⟨1 + k, by omega⟩ : Fin 88) = ⟨k + 1, hk⟩ := Fin.ext (Nat.add_comm 1 k)
  have hv : IntOp.cmpi .slt (BitVec.ofNat 32 (1 + k)) (a6 (ix1 0)) = 1#1 ↔ (planOf a0 a1 a2 a3 a4 a5 a6).valid ⟨k + 1, hk⟩ := by
    rw [IntOp.cmpi_slt, toInt_ofNat_of_lt (by omega), Nat.add_comm]; rfl
  rw [hk'] at e
  rcases IntOp.ori_eq_one.1 e with e | e
  · obtain ⟨e, e2⟩ := IntOp.andi_eq_one.1 e
    obtain ⟨e0, e1⟩ := IntOp.andi_eq_one.1 e
    exact .inl ⟨succ_toNat (hr.tile _) (IntOp.cmpi_eq.1 e0), hv.1 e1, IntOp.cmpi_eq.1 e2⟩
  · obtain ⟨e0, e1⟩ := IntOp.andi_eq_one.1 e
    refine .inr ⟨congrArg BitVec.toNat (IntOp.cmpi_eq.1 e0), ?_⟩
    rcases IntOp.ori_eq_one.1 e1 with e1 | e1
    · exact .inl fun h => IntOp.not_eq_one.1 e1 (hv.2 h)
    · exact .inr (IntOp.cmpi_eq.1 e1)

/-- A sum of words along the third of four axes that does not wrap. -/
theorem reduce_mid (x : IVec ⟨4, ![64, 512, 88, 16]⟩ 32) (h : (⟨4, ![64, 512, 88, 16]⟩ : Shape).ReducesTo [2] ⟨3, ![64, 512, 16]⟩) (hu : 0 < (⟨0, ![]⟩ : Shape).numel)
    (T : Fin 64) (r : Fin 512) (e : Fin 16) (f : Fin 88 → ℕ) (hf : ∀ k, (x (ix4 T r k e)).toNat = f k) (hlt : ∀ k, f k ≤ 2) :
    (Host.reduce IntOp.addi x (constantI ⟨0, ![]⟩ 32 0#32) h hu (ix3 T r e)).toNat = ∑ k, f k := by
  have hs : ∑ i ∈ Finset.univ.filter (fun i => h.drop i = ix3 T r e), (x i).toNat = ∑ k, f k :=
    (Shape.ReducesTo.sum_fiber_r4_a2 h (ix3 T r e) fun i => (x i).toNat).trans (Finset.sum_congr rfl fun k _ => hf k)
  have hb : ∑ k, f k < 2 ^ 32 := lt_of_le_of_lt (Finset.sum_le_sum fun k _ => hlt k) (by simp)
  rw [Host.reduce_eq_fold]
  exact (StableHlo.Predicate.toNat_fold_addi _ x (by rw [hs]; exact hb)).trans hs

theorem toNat_bit (b : BitVec 1) (P : Prop) [Decidable P] (h : b = 1#1 ↔ P) : (b.setWidth 32).toNat = if P then 1 else 0 := by
  by_cases hp : P
  · rw [if_pos hp, h.2 hp]; rfl
  · rw [if_neg hp]
    rw [ValueIdx.eq_zero_of_ne_one (fun e => hp (h.1 e))]; rfl

theorem eq_ofNat_iff (w : BitVec 32) {n : ℕ} (h : n < 2 ^ 32) : w = BitVec.ofNat 32 n ↔ w.toNat = n :=
  ⟨fun e => by rw [e, toNat_ofNat_of_lt h], fun e => BitVec.eq_of_toNat_eq (by rw [e, toNat_ofNat_of_lt h])⟩

theorem mine_word (p : Plan) (k : Fin 88) (T : Fin 64) (r : Fin 512) (w : BitVec 32) (e : Fin 16) :
    IntOp.andi (IntOp.andi (IntOp.andi (IntOp.andi (IntOp.cmpi .slt (BitVec.ofNat 32 k.val) p.used) (IntOp.cmpi .eq (p.tile k) (BitVec.ofNat 32 T.val)))
      (IntOp.cmpi .sge (BitVec.ofNat 32 r.val) (p.lo k))) (IntOp.cmpi .slt (BitVec.ofNat 32 r.val) (p.hi k))) (IntOp.cmpi .eq w (BitVec.ofNat 32 e.val)) = 1#1
      ↔ p.mine k T r ∧ w.toNat = e.val := by
  have hk := k.isLt
  have hT := T.isLt
  have hr := r.isLt
  have he := e.isLt
  rw [IntOp.andi_eq_one, IntOp.andi_eq_one, IntOp.andi_eq_one, IntOp.andi_eq_one, IntOp.cmpi_slt, IntOp.cmpi_slt, IntOp.cmpi_sge, IntOp.cmpi_eq, IntOp.cmpi_eq,
    eq_ofNat_iff _ (by omega), eq_ofNat_iff _ (by omega), toInt_ofNat_of_lt (by omega), toInt_ofNat_of_lt (by omega)]
  unfold Plan.mine Plan.valid
  tauto

theorem hit_word (p : Plan) (k : Fin 88) (T : Fin 64) (r : Fin 512) (e : Fin 16) :
    (IntOp.addi (BitVec.setWidth 32 (IntOp.andi (IntOp.andi (IntOp.andi (IntOp.andi (IntOp.cmpi .slt (BitVec.ofNat 32 k.val) p.used) (IntOp.cmpi .eq (p.tile k) (BitVec.ofNat 32 T.val)))
      (IntOp.cmpi .sge (BitVec.ofNat 32 r.val) (p.lo k))) (IntOp.cmpi .slt (BitVec.ofNat 32 r.val) (p.hi k))) (IntOp.cmpi .eq (p.ea k) (BitVec.ofNat 32 e.val))))
      (BitVec.setWidth 32 (IntOp.andi (IntOp.andi (IntOp.andi (IntOp.andi (IntOp.cmpi .slt (BitVec.ofNat 32 k.val) p.used) (IntOp.cmpi .eq (p.tile k) (BitVec.ofNat 32 T.val)))
      (IntOp.cmpi .sge (BitVec.ofNat 32 r.val) (p.lo k))) (IntOp.cmpi .slt (BitVec.ofNat 32 r.val) (p.hi k))) (IntOp.cmpi .eq (p.eb k) (BitVec.ofNat 32 e.val))))).toNat = p.hit k T r e := by
  refine (BitVec.toNat_add _ _).trans ?_
  rw [toNat_bit _ _ (mine_word p k T r (p.ea k) e), toNat_bit _ _ (mine_word p k T r (p.eb k) e)]
  unfold Plan.hit
  split_ifs <;> rfl

/-- Every gate is zero or its row goes to its expert once. -/
theorem once_of (h : Cert.Pre_plan_covers.fn (F := Ideal) a0 a1 a2 a3 a4 a5 a6 x7 x8 x9 x10 x11 = fun _ => 1#1) :
    (planOf a0 a1 a2 a3 a4 a5 a6).Once x7 := by
  have h := congrFun h (fun a => a.elim0)
  obtain ⟨-, h101⟩ := IntOp.andi_eq_one.1 h
  intro T r e
  have q := Host.reduce_andi_all _ _ _ _ _ h101 (ix3 T r e)
  clear h101 h
  rcases IntOp.ori_eq_one.1 q with q | q
  · left
    pointwise at q
    exact of_decide_eq_true ((StableHlo.Predicate.ofBool_eq_one_iff _).1 q)
  · right
    have q := congrArg BitVec.toNat (IntOp.cmpi_eq.1 q)
    refine (reduce_mid _ _ _ T r e (fun k => (planOf a0 a1 a2 a3 a4 a5 a6).hit k T r e) (fun k => ?_) (fun k => ?_)).symm.trans q
    · pointwise
      exact hit_word (planOf a0 a1 a2 a3 a4 a5 a6) k T r e
    · unfold Plan.hit; split_ifs <;> omega

end Cert.Moe

end
-- ==== Proof.IdealWords.lean ====
module

public import proofs.«01_k».proof.Proof.IdealFrame
public import proofs.«01_k».proof.Proof.IdealOk
public import proofs.«01_k».proof.Proof.PlanCovers

/-! The plan's words as the body reads them, and when the result's block is left alone or written back. -/

@[expose] public section

set_option maxRecDepth 16384

noncomputable section

namespace Cert.KernelIdeal.Moe

open Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ)

theorem off2_eq (i : grid0.Coords) : k0_off2 i 0 = (i 0).val := off1_eq i

theorem off3_eq (i : grid0.Coords) : k0_off3 i 0 = (i 0).val := off2_eq i

theorem word_ea (i : grid0.Coords) (c : Dev nD) : word i (c := c) tb1 (tbl m 1) = (plan m).ea (item i) :=
  (congrArg (fun y : S88.Idx => (tbl m 1 : IVec S88 32) y) (entry i _ (off2_eq i) (k0_off2_inb i) _)).trans (congrFun (tbl1 m) (ix1 (item i)))
theorem word_eb (i : grid0.Coords) (c : Dev nD) : word i (c := c) tb2 (tbl m 2) = (plan m).eb (item i) :=
  (congrArg (fun y : S88.Idx => (tbl m 2 : IVec S88 32) y) (entry i _ (off2_eq i) (k0_off2_inb i) _)).trans (congrFun (tbl2 m) (ix1 (item i)))
theorem word_lo (i : grid0.Coords) (c : Dev nD) : word i (c := c) tb3 (tbl m 3) = (plan m).lo (item i) :=
  (congrArg (fun y : S88.Idx => (tbl m 3 : IVec S88 32) y) (entry i _ (off2_eq i) (k0_off2_inb i) _)).trans (congrFun (tbl3 m) (ix1 (item i)))
theorem word_hi (i : grid0.Coords) (c : Dev nD) : word i (c := c) tb4 (tbl m 4) = (plan m).hi (item i) :=
  (congrArg (fun y : S88.Idx => (tbl m 4 : IVec S88 32) y) (entry i _ (off2_eq i) (k0_off2_inb i) _)).trans (congrFun (tbl4 m) (ix1 (item i)))
theorem word_first (i : grid0.Coords) (c : Dev nD) : word i (c := c) tb5 (tbl m 5) = (plan m).first (item i) :=
  (congrArg (fun y : S88.Idx => (tbl m 5 : IVec S88 32) y) (entry i _ (off2_eq i) (k0_off2_inb i) _)).trans (congrFun (tbl5 m) (ix1 (item i)))
theorem word_first' (i : grid0.Coords) (c : Dev nD) : word' i (c := c) tb5 (tbl m 5) = (plan m).first (item i) :=
  (congrArg (fun y : S88.Idx => (tbl m 5 : IVec S88 32) y) (entry i _ (off3_eq i) (k0_off3_inb i) _)).trans (congrFun (tbl5 m) (ix1 (item i)))
theorem first1 (y : S1.Idx) : y = ix1 (0 : Fin 1) := by
  funext a
  match a with
  | ⟨0, _⟩ => exact Fin.ext (show (y 0).val = 0 by have h : (y 0).val < 1 := (y 0).isLt; omega)
theorem word_used (c : Dev nD) : word1 (c := c) tb6 (tbl m 6) = (plan m).used :=
  (congrArg (fun y : S1.Idx => (tbl m 6 : IVec S1 32) y) (first1 _)).trans (congrFun (tbl6 m) (ix1 (0 : Fin 1)))

theorem ne0_ofBool (b : Bool) : Scalar.cmpi .ne (Scalar.extui (BitVec.ofBool b) : BitVec 32) 0#32 = 1#1 ↔ b = true := by
  cases b <;> decide

theorem cond1_iff (i : grid0.Coords) (v : BitVec 32) : k0_cond1 i v = 1#1 ↔ ((i 0).val : Int) < v.toInt := by
  have h : (i 0).val < 88 := (i 0).isLt
  have e := Cert.Moe.toInt_ofNat_of_lt (n := (i 0).val) (by omega)
  rw [show k0_cond1 i v = Scalar.cmpi .ne (Scalar.extui (BitVec.ofBool ((BitVec.ofNat 32 (i 0).val).slt v)) : BitVec 32) 0#32 from rfl, ne0_ofBool]
  simp only [BitVec.slt, decide_eq_true_eq, e]
theorem cond2_iff (v : BitVec 32) : k0_cond2 v = 1#1 ↔ v = 1#32 := by
  rw [show k0_cond2 v = Scalar.cmpi .ne (Scalar.extui (BitVec.ofBool (v == 1#32)) : BitVec 32) 0#32 from rfl, ne0_ofBool, beq_iff_eq]
theorem cond3_iff (v : BitVec 32) : k0_cond3 v = 1#1 ↔ v = 0#32 := by
  rw [show k0_cond3 v = Scalar.cmpi .ne (Scalar.extui (BitVec.ofBool (v == 0#32)) : BitVec 32) 0#32 from rfl, ne0_ofBool, beq_iff_eq]

/-- Point `t` works on item `t`. -/
theorem item_val (t : Fin grid0.N) : (item (grid0.coords t)).val = t.val := by
  have h : t.val < 88 := t.isLt
  have e := Pipeline.Grid.coords_val (G := grid0) t 0 (S := 1) (B := 88) (by decide) rfl
  exact e.trans (by rw [Nat.div_one, Nat.mod_eq_of_lt h])

/-- The item opens its tile: it is used and its flag is set. -/
def opens (i : grid0.Coords) : Prop := (plan m).valid (item i) ∧ (plan m).first (item i) = 1#32
/-- The item goes on with its tile. -/
def joins (i : grid0.Coords) : Prop := (plan m).valid (item i) ∧ (plan m).first (item i) = 0#32

theorem step_opens (i : grid0.Coords) (h : opens m i) (xl M o : Vec F S512x1024 .f32) :
    step i (plan m).used ((plan m).first (item i)) ((plan m).first (item i)) xl M o = k0_pay1 xl M := by
  unfold step
  rw [if_pos ((cond1_iff i _).2 h.1), if_neg (by rw [cond3_iff, h.2]; decide), if_pos ((cond2_iff _).2 h.2)]
theorem step_joins (i : grid0.Coords) (h : joins m i) (xl M o : Vec F S512x1024 .f32) :
    step i (plan m).used ((plan m).first (item i)) ((plan m).first (item i)) xl M o = k0_pay2 M o := by
  unfold step
  rw [if_pos ((cond1_iff i _).2 h.1), if_pos ((cond3_iff _).2 h.2), if_neg (by rw [cond2_iff, h.2]; decide)]
theorem step_rest (i : grid0.Coords) (h : ¬opens m i) (h' : ¬joins m i) (xl M o : Vec F S512x1024 .f32) :
    step i (plan m).used ((plan m).first (item i)) ((plan m).first (item i)) xl M o = o := by
  unfold step
  by_cases hv : (plan m).valid (item i)
  · rw [if_pos ((cond1_iff i _).2 hv), if_neg (by rw [cond3_iff]; exact fun e => h' ⟨hv, e⟩), if_neg (by rw [cond2_iff]; exact fun e => h ⟨hv, e⟩)]
  · rw [if_neg (by rw [cond1_iff]; exact hv)]

theorem used_atD (j : Fin 1 → ℕ) (hj : j = ![0]) : ((tbl m).atD 6 j : BitVec 32) = (plan m).used := by
  subst hj
  unfold Pipeline.Prefetch.Contents.atD
  rw [dif_pos (by intro a; match a with | ⟨0, _⟩ => exact Nat.le_refl 1)]
  exact (congrArg (fun y : S1.Idx => (tbl m 6 : IVec S1 32) y) (first1 _)).trans (congrFun (tbl6 m) (ix1 (0 : Fin 1)))
theorem first_atD (i : grid0.Coords) (j : Fin 1 → ℕ) (hj : j 0 = (i 0).val) : ((tbl m).atD 5 j : BitVec 32) = (plan m).first (item i) := by
  unfold Pipeline.Prefetch.Contents.atD
  have hi : (i 0).val < 88 := (i 0).isLt
  rw [dif_pos (by intro a; match a with | ⟨0, _⟩ => exact (show j 0 + 1 ≤ 88 by omega))]
  refine (congrArg (fun y : S88.Idx => (tbl m 5 : IVec S88 32) y) (?_ : _ = ix1 (item i))).trans (congrFun (tbl5 m) (ix1 (item i)))
  funext a
  match a with
  | ⟨0, _⟩ => exact Fin.ext hj

/-- Neither of the body's two stores runs. -/
def alone (i : grid0.Coords) (u f f' : BitVec 32) : Bool :=
  !(k0_cond1 i u == 1#1 && k0_cond2 f == 1#1) && !(k0_cond1 i u == 1#1 && k0_cond3 f' == 1#1)

theorem idle_eq (hO : Ok m) (i : grid0.Coords) :
    (cfgM m hO).idle 8 i = alone i (plan m).used ((plan m).first (item i)) ((plan m).first (item i)) := by
  have e : (cfgM m hO).idle = idle0 (tbl m) := rfl
  have e2 : idle0 (tbl m) 8 i = alone i ((tbl m).atD 6 ![0]) ((tbl m).atD 5 (k0_off2 i)) ((tbl m).atD 5 (k0_off3 i)) := rfl
  exact (congrFun (congrFun e 8) i).trans (e2.trans (congr (congr (congrArg (alone i) (used_atD m _ rfl)) (first_atD m i _ (off2_eq i))) (first_atD m i _ (off3_eq i))))

/-- The result's block is left alone at the points whose item neither opens nor joins. -/
theorem idle_iff (hO : Ok m) (i : grid0.Coords) : (cfgM m hO).idle 8 i = true ↔ ¬opens m i ∧ ¬joins m i := by
  rw [idle_eq]
  unfold alone opens joins
  simp only [Bool.and_eq_true, Bool.not_eq_true', ← Bool.not_eq_true, beq_iff_eq, cond1_iff, cond2_iff, cond3_iff]
  exact Iff.rfl

theorem index_eq (hO : Ok m) (t : Fin grid0.N) : ((cfgM m hO).win 8).index t = ![((plan m).tile (item (grid0.coords t))).toNat, 0] :=
  ix_out m (grid0.coords t)

/-- It is written back at the last point and before each change of tile. -/
theorem flush_iff (hO : Ok m) (t : Fin grid0.N) : ((cfgM m hO).win 8).flush t = true ↔
    t.val + 1 = 88 ∨ ∃ h : t.val + 1 < 88, ((plan m).tile ⟨t.val + 1, h⟩).toNat ≠ ((plan m).tile ⟨t.val, t.isLt⟩).toNat := by
  unfold Window.flush
  rw [show ((cfgM m hO).win 8).isOut = true from rfl, Bool.true_and, Bool.or_eq_true, decide_eq_true_eq, decide_eq_true_eq]
  refine or_congr Iff.rfl (exists_congr fun h => ?_)
  rw [index_eq, index_eq, show item (grid0.coords ⟨t.val + 1, h⟩) = ⟨t.val + 1, h⟩ from Fin.ext (item_val _), show item (grid0.coords t) = ⟨t.val, t.isLt⟩ from Fin.ext (item_val _)]
  refine not_congr ⟨fun e => congrFun e 0, fun e => by rw [e]⟩

/-- A point whose block is fresh opens its tile. -/
theorem opens_of_fresh (hO : Ok m) (hW : (plan m).Walks) : ∀ (n : ℕ) (hn : n < grid0.N), (cfgM m hO).fresh 8 n = true → opens m (grid0.coords ⟨n, hn⟩)
  | 0, hn, _ => by
    have e : item (grid0.coords ⟨0, hn⟩) = 0 := Fin.ext (item_val _)
    unfold opens; rw [e]; exact ⟨hW.valid0, hW.first0⟩
  | n + 1, hn, hf => by
    have hn' : n < grid0.N := Nat.lt_of_succ_lt hn
    rw [(cfgM m hO).fresh_succ 8 n hn', Bool.or_eq_true, Bool.and_eq_true] at hf
    rcases hf with hf | ⟨hi, hf⟩
    · rcases (flush_iff m hO ⟨n, hn'⟩).1 hf with h | ⟨h, hne⟩
      · exact absurd hn (by show ¬(n + 1 < 88); have h' : n + 1 = 88 := h; omega)
      · have e : item (grid0.coords ⟨n + 1, hn⟩) = ⟨n + 1, h⟩ := Fin.ext (item_val _)
        unfold opens; rw [e]
        rcases hW.onward n h with ⟨_, h2, h3⟩ | ⟨h1, _⟩
        · exact ⟨h2, h3⟩
        · exact absurd h1 hne
    · exact absurd (opens_of_fresh hO hW n hn' hf) ((idle_iff m hO _).1 hi).1

end Cert.KernelIdeal.Moe

end
-- ==== Proof.IdealExact.lean ====
module

public import proofs.«01_k».proof.Proof.IdealWords

/-! The expert call's run, exactly, for a plan that walks the tiles: what the result's block holds after every point, and
    so what the result holds at the end. -/

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- What the item of point `t` adds. -/
def addend (t : Fin (cfgM m hO).N) : Vec F S512x1024 .f32 :=
  moe (iblk m hO 0 0 t) (iblk m hO 0 1 t) (iblk m hO 0 2 t) (iblk m hO 0 3 t) (iblk m hO 0 4 t) (iblk m hO 0 5 t) (iblk m hO 0 6 t) (iblk m hO 0 7 t)
    ((plan m).ea (item (grid0.coords t))) ((plan m).eb (item (grid0.coords t))) ((plan m).lo (item (grid0.coords t))) ((plan m).hi (item (grid0.coords t)))

theorem stepAt_eq (t : Fin (cfgM m hO).N) (o : Vec F S512x1024 .f32) : stepAt m hO 0 t o
    = step (grid0.coords t) (plan m).used ((plan m).first (item (grid0.coords t))) ((plan m).first (item (grid0.coords t))) (xLanes (iblk m hO 0 0 t)) (addend m hO t) o := by
  unfold stepAt addend
  rw [word_used, word_first, word_first', word_ea, word_eb, word_lo, word_hi]

/-- The result's block after point `n`: each point's step on what the point before left. -/
def outsAt : ℕ → Vec F S512x1024 .f32
  | 0 => stepAt m hO 0 (⟨0, by decide⟩ : Fin grid0.N) (broadcast S512x1024 (Scalar.ofBits .f32 0x00000000#32))
  | n + 1 => if h : n + 1 < grid0.N then stepAt m hO 0 (⟨n + 1, h⟩ : Fin grid0.N) (outsAt n) else outsAt n

abbrev out (t : Fin (cfgM m hO).N) : Vec F S512x1024 .f32 := outsAt m hO t.val

theorem out_opens (t : Fin (cfgM m hO).N) (h : opens m (grid0.coords t)) (o : Vec F S512x1024 .f32) : stepAt m hO 0 t o = k0_pay1 (xLanes (iblk m hO 0 0 t)) (addend m hO t) := by
  rw [stepAt_eq, step_opens m _ h]

theorem outsAt_succ (n : ℕ) (h : n + 1 < grid0.N) : outsAt m hO (n + 1) = stepAt m hO 0 (⟨n + 1, h⟩ : Fin grid0.N) (outsAt m hO n) := by
  rw [outsAt, dif_pos h]

theorem out_opens' (t : Fin grid0.N) (h : opens m (grid0.coords t)) (o : Vec F S512x1024 .f32) : stepAt m hO 0 t o = outsAt m hO t.val := by
  obtain ⟨n, hn⟩ := t
  cases n with
  | zero => rw [outsAt, out_opens m hO _ h, out_opens m hO _ h]
  | succ n => rw [outsAt_succ m hO n hn, out_opens m hO _ h, out_opens m hO _ h]

theorem out_idle (t : Fin (cfgM m hO).N) (h : (cfgM m hO).idle 8 ((cfgM m hO).grid.coords t) = true) (o : Vec F S512x1024 .f32) : stepAt m hO 0 t o = o := by
  rw [stepAt_eq]
  exact step_rest m _ ((idle_iff m hO _).1 h).1 ((idle_iff m hO _).1 h).2 _ _ _

theorem before8 (t : Fin (cfgM m hO).N) (hf : (cfgM m hO).fresh 8 t.val = false) (d) :
    (dats m hO (out m hO) 0 0).before 8 t d = outsAt m hO (t.val - 1) := by
  refine (Dat.before_out_traj (dats m hO (out m hO) 0 0) 8 rfl (fun _ _ => rfl) (fun t h0 hi _ => ?_) t.val t rfl d).trans ?_
  · rw [after8, after8]
    show outsAt m hO t.val = outsAt m hO (t.val - 1)
    obtain ⟨n, hn⟩ := t
    cases n with
    | zero => exact absurd rfl h0
    | succ n => exact (outsAt_succ m hO n hn).trans (out_idle m hO _ hi _)
  · rw [hf, if_neg Bool.false_ne_true, after8]

/-- The body takes what it finds to what the recursion says. -/
theorem step_before (hW : (plan m).Walks) (t : Fin (cfgM m hO).N) (d) :
    stepAt m hO 0 t ((dats m hO (out m hO) 0 0).before 8 t d) = out m hO t := by
  cases hf : (cfgM m hO).fresh 8 t.val
  · refine (congrArg (stepAt m hO 0 t) (before8 m hO t hf d)).trans ?_
    obtain ⟨n, hn⟩ := t
    cases n with
    | zero => exact absurd hf (by rw [Cfg.fresh_zero]; decide)
    | succ n => exact (outsAt_succ m hO n hn).symm
  · exact out_opens' m hO t (opens_of_fresh m hO hW t.val t.isLt hf) _

def epre (t : Fin (cfgM m hO).N) : sProp 𝕄 :=
  iprop((dats m hO (out m hO) 0 0).Φ t.castSucc ∗ (dats m hO (out m hO) 0 0).owesAt () t.castSucc
    ∗ (∃ d, owns ((0 : Dev nD) : Thread nD τ) (ms0 m hO t) fullShare ((dats m hO (out m hO) 0 0).before 0 t d))
    ∗ (∃ d, owns ((0 : Dev nD) : Thread nD τ) (ms1 m hO t) fullShare ((dats m hO (out m hO) 0 0).before 1 t d))
    ∗ (∃ d, owns ((0 : Dev nD) : Thread nD τ) (ms2 m hO t) fullShare ((dats m hO (out m hO) 0 0).before 2 t d))
    ∗ (∃ d, owns ((0 : Dev nD) : Thread nD τ) (ms3 m hO t) fullShare ((dats m hO (out m hO) 0 0).before 3 t d))
    ∗ (∃ d, owns ((0 : Dev nD) : Thread nD τ) (ms4 m hO t) fullShare ((dats m hO (out m hO) 0 0).before 4 t d))
    ∗ (∃ d, owns ((0 : Dev nD) : Thread nD τ) (ms5 m hO t) fullShare ((dats m hO (out m hO) 0 0).before 5 t d))
    ∗ (∃ d, owns ((0 : Dev nD) : Thread nD τ) (ms6 m hO t) fullShare ((dats m hO (out m hO) 0 0).before 6 t d))
    ∗ (∃ d, owns ((0 : Dev nD) : Thread nD τ) (ms7 m hO t) fullShare ((dats m hO (out m hO) 0 0).before 7 t d))
    ∗ (∃ d, owns ((0 : Dev nD) : Thread nD τ) (ms8 m hO t) fullShare ((dats m hO (out m hO) 0 0).before 8 t d)))

def epost (t : Fin (cfgM m hO).N) : sProp 𝕄 :=
  iprop((dats m hO (out m hO) 0 0).Φ t.succ ∗ (dats m hO (out m hO) 0 0).owesAt () t.succ
    ∗ owns ((0 : Dev nD) : Thread nD τ) (ms0 m hO t) fullShare ((dats m hO (out m hO) 0 0).after 0 t)
    ∗ owns ((0 : Dev nD) : Thread nD τ) (ms1 m hO t) fullShare ((dats m hO (out m hO) 0 0).after 1 t)
    ∗ owns ((0 : Dev nD) : Thread nD τ) (ms2 m hO t) fullShare ((dats m hO (out m hO) 0 0).after 2 t)
    ∗ owns ((0 : Dev nD) : Thread nD τ) (ms3 m hO t) fullShare ((dats m hO (out m hO) 0 0).after 3 t)
    ∗ owns ((0 : Dev nD) : Thread nD τ) (ms4 m hO t) fullShare ((dats m hO (out m hO) 0 0).after 4 t)
    ∗ owns ((0 : Dev nD) : Thread nD τ) (ms5 m hO t) fullShare ((dats m hO (out m hO) 0 0).after 5 t)
    ∗ owns ((0 : Dev nD) : Thread nD τ) (ms6 m hO t) fullShare ((dats m hO (out m hO) 0 0).after 6 t)
    ∗ owns ((0 : Dev nD) : Thread nD τ) (ms7 m hO t) fullShare ((dats m hO (out m hO) 0 0).after 7 t)
    ∗ (dats m hO (out m hO) 0 0).leavesExact 8 t)

theorem owns_of_eq (t : Fin (cfgM m hO).N) {X Y : Vec F S512x1024 .f32} (e : X = Y) :
    (owns ((0 : Dev nD) : Thread nD τ) (ms8 m hO t) fullShare X : sProp 𝕄) ⊢ owns ((0 : Dev nD) : Thread nD τ) (ms8 m hO t) fullShare Y := by
  rw [e]

/-- What the body leaves in the result's block is what the pipeline asks of it. -/
theorem leaves8 (hW : (plan m).Walks) (t : Fin (cfgM m hO).N) (d) :
    (owns ((0 : Dev nD) : Thread nD τ) (ms8 m hO t) fullShare (stepAt m hO 0 t ((dats m hO (out m hO) 0 0).before 8 t d)) : sProp 𝕄)
      ⊢ (dats m hO (out m hO) 0 0).leavesExact 8 t := by
  have live : (owns ((0 : Dev nD) : Thread nD τ) (ms8 m hO t) fullShare (stepAt m hO 0 t ((dats m hO (out m hO) 0 0).before 8 t d)) : sProp 𝕄)
      ⊢ owns ((0 : Dev nD) : Thread nD τ) (((cfgM m hO).win 8).stage ((cfgM m hO).slots t 8)) fullShare ((dats m hO (out m hO) 0 0).after 8 t) := by
    rw [after8]; exact owns_of_eq m hO t (step_before m hO hW t d)
  unfold Dat.leavesExact
  cases hi : (cfgM m hO).idle 8 ((cfgM m hO).grid.coords t)
  · exact live
  · cases hf : ((cfgM m hO).win 8).flush t
    · refine (owns_of_eq m hO t (out_idle m hO t hi _)).trans ?_
      iintro H; iexists d; iexact H
    · exact live

theorem sound_exact (hW : (plan m).Walks) (t : Fin (cfgM m hO).N) :
    epre m hO t ⊢ wp frame (wpE (defs₀ (F := F)) Variants.none (0 : Dev nD) none) Set.univ (bodyAt m hO t) (fun _ => epost m hO t) := by
  have h : ∀ d, iprop(pre8 m hO (out m hO) 0 t ∗ owns ((0 : Dev nD) : Thread nD τ) (ms8 m hO t) fullShare ((dats m hO (out m hO) 0 0).before 8 t d))
      ⊢ wp frame (wpE (defs₀ (F := F)) Variants.none (0 : Dev nD) none) Set.univ (bodyAt m hO t) (fun _ => epost m hO t) := fun d =>
    (sound_step m hO (out m hO) 0 t _).trans (wp_mono _ _ _ fun _ => by
      unfold post8 epost
      iintro ⟨⟨HΦ, Ho, H0, H1, H2, H3, H4, H5, H6, H7⟩, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves8 m hO hW t d)
      iexact H8)
  unfold epre
  iintro ⟨HΦ, Ho, H0, H1, H2, H3, H4, H5, H6, H7, ⟨%d, H8⟩⟩
  iapply (h d)
  unfold pre8
  isplitr [H8]; swap
  · iexact H8
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
theorem exact_obligation (hW : (plan m).Walks) : BodyObligation (dats (F := F) m hO (out m hO) 0 0) (defs₀ (F := F)) Variants.none () Set.univ := fun t => by
  rw [bigSep_W0, bigSep_W0, row m hO]
  exact triple_restated (sound_exact m hO hW t) rfl .rfl fun _ => .rfl

theorem exact_body (hW : (plan m).Walks) (c : Dev nD) : BodyObligation (dats (F := F) m hO (out m hO) 0 c) (defs₀ (F := F)) Variants.none () Set.univ := by
  obtain rfl : c = 0 := Subsingleton.elim _ _
  exact exact_obligation m hO hW

set_option maxHeartbeats 3200000 in
set_option backward.isDefEq.respectTransparency.types false in
theorem run_exact (hW : (plan m).Walks) : θ_run defs (onTc (τ := τ) (main (F := F))) (s₀ m ρ)
    (fun r => (Pipeline.FramePost (Pipeline.pin pcfgs fun _ => adm m hO) (dats m hO (out m hO)) 0 (V m)) r ∧ r.2.sem = fun _ => 0) :=
  Pipeline.θ_run_frameP_shared (Q' := _) pcfgs (fun _ => adm m hO) (dats m hO (out m hO)) (0 : Fin 1) launch₀0 defs₀ Variants.none m ρ main
    (hbody := fun c => (exact_body m hO hW c).loose) (hq := fun _ _ _ => rfl)
    (howed := fun _ _ => rfl) (V := V m) (hmain := hmain m Variants.none) (hA := A_eq m hO _) (hpf := V_pre m) (hΦ := fun _ _ => rfl)

end Cert.KernelIdeal.Moe

end
-- ==== Proof.Math.lean ====
module

public import proofs.«01_k».proof.Proof.Plan
public import Idealize.ShloMosaic.PureOps.Ideal.Laws

/-! The mathematics of the expert products over the extended reals: one expert's share of a row, and the sum that a
    plan's walk over the tiles builds. -/

@[expose] public section

noncomputable section

namespace Cert.Moe

open Idealize.ShloMosaic

/-- A row scaled to unit mean square, times the gain. -/
def normed (x gain : Fin 1024 → EReal) (d : Fin 1024) : EReal :=
  x d * Ideal.rsqrt (Ideal.div (∑ k, x k * x k) (Ideal.ofBits FTy.f32 1149239296#32) + Ideal.ofBits FTy.f32 897988541#32) * gain d

/-- A row times one expert's input weights. -/
def act (h : Fin 1024 → EReal) (w : Fin 1024 → Fin 256 → EReal) (f : Fin 256) : EReal := ∑ d, h d * w d f

/-- One expert's share of a row: its gated hidden units, scaled by the row's gate, times its output weights. -/
def share (h : Fin 1024 → EReal) (wg wu : Fin 1024 → Fin 256 → EReal) (wd : Fin 256 → Fin 1024 → EReal) (g : EReal) (j : Fin 1024) : EReal :=
  ∑ f, act h wg f * Ideal.logistic (act h wg f) * act h wu f * g * wd f j

theorem share_zero (h : Fin 1024 → EReal) (wg wu : Fin 1024 → Fin 256 → EReal) (wd : Fin 256 → Fin 1024 → EReal) (j : Fin 1024) :
    share h wg wu wd 0 j = 0 := by
  unfold share
  exact Finset.sum_eq_zero fun f _ => by rw [mul_zero, zero_mul]

/-- The gate that the lanes of one row hold for expert `e`, if the row is taken. -/
theorem gate_sum (g : Fin 128 → EReal) (lo hi e : BitVec 32) (he : e.toNat < 16) (r : Fin 512) :
    (∑ x : Fin 128, Scalar.select (IntOp.andi (IntOp.andi (IntOp.cmpi .sge (BitVec.ofNat 32 r.val) lo) (IntOp.cmpi .slt (BitVec.ofNat 32 r.val) hi))
        (IntOp.cmpi .eq (BitVec.ofNat 32 x.val) e)) (g x) (0 : EReal))
      = if lo.toInt ≤ (r.val : Int) ∧ (r.val : Int) < hi.toInt then g ⟨e.toNat, by omega⟩ else 0 := by
  have hr : (BitVec.ofNat 32 r.val).toInt = (r.val : Int) := by
    rw [BitVec.toInt_eq_toNat_cond, BitVec.toNat_ofNat, Nat.mod_eq_of_lt (by omega), if_pos (by omega)]
  have hx : ∀ x : Fin 128, BitVec.ofNat 32 x.val = e ↔ x.val = e.toNat := fun x => by
    rw [← BitVec.toNat_inj, BitVec.toNat_ofNat, Nat.mod_eq_of_lt (by omega)]
  have hs : ∀ x : Fin 128, Scalar.select (IntOp.andi (IntOp.andi (IntOp.cmpi .sge (BitVec.ofNat 32 r.val) lo) (IntOp.cmpi .slt (BitVec.ofNat 32 r.val) hi))
        (IntOp.cmpi .eq (BitVec.ofNat 32 x.val) e)) (g x) (0 : EReal)
      = if (lo.toInt ≤ (r.val : Int) ∧ (r.val : Int) < hi.toInt) ∧ x.val = e.toNat then g x else 0 := fun x => by
    unfold Scalar.select
    refine if_congr ?_ rfl rfl
    change _ = 1#1 ↔ _
    rw [IntOp.andi_eq_one, IntOp.andi_eq_one, IntOp.cmpi_sge, IntOp.cmpi_slt, IntOp.cmpi_eq, hr, hx]
  rw [Finset.sum_congr rfl fun x _ => hs x]
  split_ifs with h
  · rw [Finset.sum_eq_single (⟨e.toNat, by omega⟩ : Fin 128)]
    · rw [if_pos ⟨h, rfl⟩]
    · intro x _ hne
      exact if_neg fun h' => hne (Fin.ext h'.2)
    · intro h'; exact absurd (Finset.mem_univ _) h'
  · exact Finset.sum_eq_zero fun x _ => if_neg fun h' => h h'.1

namespace Plan

variable (p : Plan)

/-- What item `k` adds to tile `T`. -/
def added (c : Fin 88 → EReal) (T k : ℕ) : EReal :=
  if h : k < 88 then (if p.valid ⟨k, h⟩ ∧ (p.tile ⟨k, h⟩).toNat = T then c ⟨k, h⟩ else 0) else 0

theorem Walks.mono {p : Plan} (hW : p.Walks) : ∀ (n : ℕ) (hn : n < 88) (k : ℕ) (hk : k ≤ n), (p.tile ⟨k, by omega⟩).toNat ≤ (p.tile ⟨n, hn⟩).toNat
  | 0, hn, k, hk => by obtain rfl : k = 0 := by omega
                       exact Nat.le_refl _
  | n + 1, hn, k, hk => by
    rcases Nat.lt_or_ge k (n + 1) with h | h
    · have h1 := hW.mono n (by omega) k (by omega)
      rcases hW.onward n hn with ⟨h2, _⟩ | ⟨h2, _⟩ <;> omega
    · obtain rfl : k = n + 1 := by omega
      exact Nat.le_refl _

/-- A block that is set at each tile's first item, added to at the later ones and else left alone holds, after item `n`,
    the tile's start and everything the items so far have added to the tile. -/
theorem Walks.sum_upto {p : Plan} (hW : p.Walks) (x : ℕ → EReal) (c : Fin 88 → EReal) (o : ℕ → EReal)
    (hopen : ∀ (n : ℕ) (h : n < 88), p.valid ⟨n, h⟩ → p.first ⟨n, h⟩ = 1#32 → o n = x (p.tile ⟨n, h⟩).toNat + c ⟨n, h⟩)
    (hjoin : ∀ (n : ℕ) (h : n + 1 < 88), p.valid ⟨n + 1, h⟩ → p.first ⟨n + 1, h⟩ = 0#32 → o (n + 1) = o n + c ⟨n + 1, h⟩)
    (hrest : ∀ (n : ℕ) (h : n + 1 < 88), ¬p.valid ⟨n + 1, h⟩ → o (n + 1) = o n) :
    ∀ (n : ℕ) (h : n < 88), o n = x (p.tile ⟨n, h⟩).toNat + ∑ k ∈ Finset.range (n + 1), p.added c (p.tile ⟨n, h⟩).toNat k
  | 0, h => by
    rw [hopen 0 h hW.valid0 hW.first0, Finset.sum_range_one]
    unfold added
    rw [dif_pos h, if_pos ⟨hW.valid0, rfl⟩]
  | n + 1, h => by
    have ih := hW.sum_upto x c o hopen hjoin hrest n (by omega)
    rw [Finset.sum_range_succ]
    rcases hW.onward n h with ⟨h1, h2, h3⟩ | ⟨h1, h2⟩
    · rw [hopen (n + 1) h h2 h3, Finset.sum_eq_zero (fun k hk => ?_), zero_add]
      · unfold added; rw [dif_pos h, if_pos ⟨h2, rfl⟩]
      · have hk' : k < n + 1 := Finset.mem_range.1 hk
        have h4 := hW.mono n (by omega) k (by omega)
        unfold added
        rw [dif_pos (show k < 88 by omega), if_neg fun h5 => by have h6 := h5.2; omega]
    · by_cases hv : p.valid ⟨n + 1, h⟩
      · rw [hjoin n h hv (h2.resolve_left fun h3 => h3 hv), ih, h1, add_assoc]
        congr 2
        unfold added; rw [dif_pos h, if_pos ⟨hv, h1⟩]
      · rw [hrest n h hv, ih, h1]
        congr 1
        unfold added
        rw [dif_pos h, if_neg fun h3 => hv h3.1, add_zero]

/-- Where the tile is left, that is everything any item adds to it. -/
theorem Walks.sum_all {p : Plan} (hW : p.Walks) (c : Fin 88 → EReal) (n : ℕ) (h : n < 88)
    (hlast : n + 1 = 88 ∨ ∃ h' : n + 1 < 88, (p.tile ⟨n + 1, h'⟩).toNat ≠ (p.tile ⟨n, h⟩).toNat) :
    ∑ k ∈ Finset.range (n + 1), p.added c (p.tile ⟨n, h⟩).toNat k
      = ∑ k : Fin 88, if p.valid k ∧ (p.tile k).toNat = (p.tile ⟨n, h⟩).toNat then c k else 0 := by
  have e : ∑ k ∈ Finset.range (n + 1), p.added c (p.tile ⟨n, h⟩).toNat k = ∑ k ∈ Finset.range 88, p.added c (p.tile ⟨n, h⟩).toNat k := by
    refine Finset.sum_subset (fun k hk => Finset.mem_range.2 (by have := Finset.mem_range.1 hk; omega)) fun k hk hk' => ?_
    have h1 : k < 88 := Finset.mem_range.1 hk
    have h2 : ¬k < n + 1 := fun h3 => hk' (Finset.mem_range.2 h3)
    rcases hlast with h3 | ⟨h3, h4⟩
    · omega
    · have h5 := hW.mono k h1 (n + 1) (by omega)
      have h6 := hW.mono (n + 1) h3 n (by omega)
      unfold added
      rw [dif_pos h1, if_neg fun h7 => by have h8 := h7.2; omega]
  rw [e, Finset.sum_range]
  refine Finset.sum_congr rfl fun k _ => ?_
  unfold added
  rw [dif_pos k.isLt]

/-- Every tile is left somewhere. -/
theorem Walks.leaves {p : Plan} (hW : p.Walks) (T : Fin 64) :
    ∃ (n : ℕ) (h : n < 88), (p.tile ⟨n, h⟩).toNat = T.val ∧ (n + 1 = 88 ∨ ∃ h' : n + 1 < 88, (p.tile ⟨n + 1, h'⟩).toNat ≠ (p.tile ⟨n, h⟩).toNat) := by
  have key : ∀ (d n : ℕ) (h : n < 88), n + d = 87 → (p.tile ⟨n, h⟩).toNat ≤ T.val →
      ∃ (n : ℕ) (h : n < 88), (p.tile ⟨n, h⟩).toNat = T.val ∧ (n + 1 = 88 ∨ ∃ h' : n + 1 < 88, (p.tile ⟨n + 1, h'⟩).toNat ≠ (p.tile ⟨n, h⟩).toNat) := by
    intro d
    induction d with
    | zero =>
      intro n h hd hT
      obtain rfl : n = 87 := by omega
      have h1 := hW.last
      have h2 : (p.tile ⟨87, h⟩).toNat = 63 := h1
      exact ⟨87, h, by have := T.isLt; omega, .inl rfl⟩
    | succ d ih =>
      intro n h hd hT
      have h' : n + 1 < 88 := by omega
      by_cases h3 : (p.tile ⟨n + 1, h'⟩).toNat ≤ T.val
      · exact ih (n + 1) h' (by omega) h3
      · rcases hW.onward n h' with ⟨h1, _⟩ | ⟨h1, _⟩
        · exact ⟨n, h, by omega, .inr ⟨h', by omega⟩⟩
        · omega
  exact key 87 0 (by omega) rfl (by rw [show (⟨0, by omega⟩ : Fin 88) = 0 from rfl, hW.tile0]; omega)

/-- With every open gate met exactly once, the items' additions to a row are the experts' shares. -/
theorem sum_hits (T : Fin 64) (r : Fin 512) (G : Fin 16 → EReal) (h : ∀ e, G e = 0 ∨ ∑ k : Fin 88, p.hit k T r e = 1) :
    ∑ k : Fin 88, ∑ e : Fin 16, p.hit k T r e • G e = ∑ e : Fin 16, G e := by
  rw [Finset.sum_comm]
  refine Finset.sum_congr rfl fun e _ => ?_
  rw [← Finset.sum_smul]
  rcases h e with h | h
  · rw [h, smul_zero]
  · rw [h, one_smul]

/-- One item's two slots, as a sum over the experts. -/
theorem slots_eq (hR : p.InRange) (k : Fin 88) (T : Fin 64) (r : Fin 512) (G : Fin 16 → EReal) :
    (if p.valid k ∧ (p.tile k).toNat = T.val then
      ((if (p.lo k).toInt ≤ (r.val : Int) ∧ (r.val : Int) < (p.hi k).toInt then G ⟨(p.ea k).toNat, hR.ea k⟩ else 0)
        + (if (p.lo k).toInt ≤ (r.val : Int) ∧ (r.val : Int) < (p.hi k).toInt then G ⟨(p.eb k).toNat, hR.eb k⟩ else 0)) else 0)
      = ∑ e : Fin 16, p.hit k T r e • G e := by
  have one : ∀ (w : ℕ) (hw : w < 16), (∑ e : Fin 16, (if p.mine k T r ∧ w = e.val then 1 else 0 : ℕ) • G e)
      = if p.mine k T r then G ⟨w, hw⟩ else 0 := fun w hw => by
    by_cases hm : p.mine k T r
    · rw [if_pos hm, Finset.sum_eq_single (⟨w, hw⟩ : Fin 16)]
      · rw [if_pos ⟨hm, rfl⟩, one_smul]
      · intro e _ hne
        rw [if_neg fun h => hne (Fin.ext h.2.symm), zero_smul]
      · intro h; exact absurd (Finset.mem_univ _) h
    · rw [if_neg hm]
      exact Finset.sum_eq_zero fun e _ => by rw [if_neg fun h => hm h.1, zero_smul]
  unfold hit
  simp only [add_smul, Finset.sum_add_distrib]
  rw [one _ (hR.ea k), one _ (hR.eb k)]
  by_cases h1 : p.valid k ∧ (p.tile k).toNat = T.val
  · rw [if_pos h1]
    have hm : (p.lo k).toInt ≤ (r.val : Int) ∧ (r.val : Int) < (p.hi k).toInt ↔ p.mine k T r := ⟨fun h => ⟨h1.1, h1.2, h⟩, fun h => h.2.2⟩
    exact congrArg₂ (· + ·) (if_congr hm rfl rfl) (if_congr hm rfl rfl)
  · rw [if_neg h1, if_neg fun h : p.mine k T r => h1 ⟨h.1, h.2.1⟩, if_neg fun h : p.mine k T r => h1 ⟨h.1, h.2.1⟩, add_zero]

end Plan

end Cert.Moe

end
-- ==== Proof.IdealPay.lean ====
module

public import proofs.«01_k».proof.Proof.IdealRun
public import proofs.«01_k».proof.Proof.Math
public import Idealize.ShloMosaic.Lib.Pointwise

/-! What one item adds to a row, at the extended reals: two experts' shares. -/

@[expose] public section

noncomputable section

namespace Cert.KernelIdeal.Moe

open Cert.KernelIdeal.Gen Cert.Moe
open Idealize.ShloMosaic

theorem pay3_at (xl : Vec Ideal S512x1024 .f32) (x1 : Vec Ideal S1x1024 .f32) (r : Fin 512) (d : Fin 1024) :
    k0_pay3 (F := Ideal) xl x1 (ix2 r d) = normed (fun d => xl (ix2 r d)) (fun d => x1 (ix2 0 d)) d := by
  unfold normed
  pointwise [k0_pay3]

theorem pay6_at (xl : Vec Ideal S512x1024 .f32) (x1 : Vec Ideal S1x1024 .f32) (w : Vec Ideal S1x1024x256 .bf16) (r : Fin 512) (f : Fin 256) :
    k0_pay6 (F := Ideal) xl x1 w (ix2 r f) = act (normed (fun d => xl (ix2 r d)) (fun d => x1 (ix2 0 d))) (fun d f => w (ix3 0 d f)) f := by
  unfold act
  pointwise [k0_pay6, pay3_at]

theorem pay7_at (w : Vec Ideal S1x1024x256 .bf16) (d : Fin 1024) (f : Fin 256) : k0_pay7 (F := Ideal) w (ix2 d f) = w (ix3 0 d f) := by
  pointwise [k0_pay7]

theorem pay4_at (lo hi : BitVec 32) (r : Fin 512) (x : Fin 128) :
    k0_pay4 (F := Ideal) lo hi (ix2 r x) = IntOp.andi (IntOp.cmpi .sge (BitVec.ofNat 32 r.val) lo) (IntOp.cmpi .slt (BitVec.ofNat 32 r.val) hi) := by
  pointwise [k0_pay4]

theorem pay5_at (gl : Vec Ideal S512x128 .f32) (lo hi ea : BitVec 32) (he : ea.toNat < 16) (r : Fin 512) :
    k0_pay5 (F := Ideal) gl lo hi ea (ix2 r 0)
      = if lo.toInt ≤ (r.val : Int) ∧ (r.val : Int) < hi.toInt then gl (ix2 r ⟨ea.toNat, by omega⟩) else 0 := by
  refine Eq.trans ?_ (gate_sum (fun x => gl (ix2 r x)) lo hi ea he r)
  pointwise [k0_pay5, pay4_at]

theorem iota_at (r : Fin 512) (x : Fin 128) : iota .tc S512x128 32 [1] iota_S512x128_d1_w32 (ix2 r x) = BitVec.ofNat 32 x.val := by
  pointwise []

/-- One item's addition to a row. -/
theorem moe_at (x0 : Vec Ideal S512x1152 .f32) (x1 : Vec Ideal S1x1024 .f32) (x2 x3 : Vec Ideal S1x1024x256 .bf16) (x4 : Vec Ideal S1x256x1024 .bf16)
    (x5 x6 : Vec Ideal S1x1024x256 .bf16) (x7 : Vec Ideal S1x256x1024 .bf16) (ea eb lo hi : BitVec 32) (ha : ea.toNat < 16) (hb : eb.toNat < 16)
    (r : Fin 512) (j : Fin 1024) :
    moe x0 x1 x2 x3 x4 x5 x6 x7 ea eb lo hi (ix2 r j)
      = share (normed (fun d => xLanes x0 (ix2 r d)) (fun d => x1 (ix2 0 d))) (fun d f => x2 (ix3 0 d f)) (fun d f => x3 (ix3 0 d f)) (fun f j => x4 (ix3 0 f j))
          (if lo.toInt ≤ (r.val : Int) ∧ (r.val : Int) < hi.toInt then gLanes x0 (ix2 r ⟨ea.toNat, by omega⟩) else 0) j
        + share (normed (fun d => xLanes x0 (ix2 r d)) (fun d => x1 (ix2 0 d))) (fun d f => x5 (ix3 0 d f)) (fun d f => x6 (ix3 0 d f)) (fun f j => x7 (ix3 0 f j))
          (if lo.toInt ≤ (r.val : Int) ∧ (r.val : Int) < hi.toInt then gLanes x0 (ix2 r ⟨eb.toNat, by omega⟩) else 0) j := by
  rw [← pay5_at (gLanes x0) lo hi ea ha r, ← gate_sum (fun x => gLanes x0 (ix2 r x)) lo hi eb hb r]
  unfold moe share
  generalize hg : k0_pay5 (F := Ideal) (gLanes x0) lo hi ea = ga
  pointwise [k0_pay8, pay4_at, pay6_at, pay7_at, pay3_at, act]

end Cert.KernelIdeal.Moe

end
-- ==== Proof.Layer.lean ====
module

public import proofs.«01_k».proof.Proof.Math
public import proofs.«01_k».proof.Proof.PlanCovers

/-! The whole layer over the extended reals: a row and its sixteen experts' shares. -/

@[expose] public section

noncomputable section

namespace Cert.Moe

open Idealize.ShloMosaic

/-- The lane of a row that holds its entry `d`. -/
def rowLane (d : Fin 1024) : Fin 1152 := ⟨d.val, by have := d.isLt; omega⟩

variable (xs : Fin 32768 → Fin 1152 → EReal) (gain : Fin 1024 → EReal) (wg wu : Fin 16 → Fin 1024 → Fin 256 → EReal) (wd : Fin 16 → Fin 256 → Fin 1024 → EReal)

/-- Expert `e`'s share of row `i` at the gate `g`. -/
def expertAt (i : Fin 32768) (j : Fin 1024) (g : EReal) (e : Fin 16) : EReal :=
  share (normed (fun d => xs i (rowLane d)) gain) (wg e) (wu e) (wd e) g j

/-- Expert `e`'s share of row `i` at the row's own gate. -/
def expertShare (i : Fin 32768) (j : Fin 1024) (e : Fin 16) : EReal := expertAt xs gain wg wu wd i j (xs i (gateLane e)) e

/-- The layer's result: the row, and every expert's share. -/
def layer (i : Fin 32768) (j : Fin 1024) : EReal := xs i (rowLane j) + ∑ e, expertShare xs gain wg wu wd i j e

theorem expertAt_gate (c : Prop) [Decidable c] (i : Fin 32768) (j : Fin 1024) (e : Fin 16) :
    expertAt xs gain wg wu wd i j (if c then xs i (gateLane e) else 0) e = if c then expertShare xs gain wg wu wd i j e else 0 := by
  split_ifs
  · rfl
  · exact share_zero _ _ _ _ _

theorem expertShare_of_gate (i : Fin 32768) (j : Fin 1024) (e : Fin 16) (h : xs i (gateLane e) = 0) : expertShare xs gain wg wu wd i j e = 0 := by
  unfold expertShare; rw [h]; exact share_zero _ _ _ _ _

end Cert.Moe

end
-- ==== Proof.IdealBlocks.lean ====
module

public import proofs.«01_k».proof.Proof.IdealExact
public import proofs.«01_k».proof.Proof.IdealPay
public import proofs.«01_k».proof.Proof.Layer
public import Idealize.ShloMosaic.Lib.Pipeline.ValueKit

/-! The windows' blocks, entry by entry, as entries of the arguments. -/

@[expose] public section

set_option maxRecDepth 16384

noncomputable section

namespace Cert.KernelIdeal.Moe

open Cert.KernelIdeal.Gen Cert.Moe
open Idealize.ShloMosaic Idealize.ShloMosaic.TcCoe Idealize.ShloMosaic.Tactic

variable (m : (ℓ : Loc nD τ sig) → Buf (Elt Ideal) ℓ) (hO : Ok m)

abbrev arg (b : Ref sig .tc) : Buf (Elt Ideal) (((0 : Dev nD).tc : Thread nD τ).loc b) := m (((0 : Dev nD).tc : Thread nD τ).loc b)

theorem V_xs : V m 0 main_arg7 = arg m main_arg7 := V_kept m 0 main_arg7 (by decide) (by decide) (by decide) (by decide)
theorem V_v0 : V m 0 main_v0 = arg m main_arg9 := by unfold V; after_results; try rfl
theorem V_v1 : V m 0 main_v1 = arg m main_arg10 := by unfold V; after_results; try rfl
theorem V_v2 : V m 0 main_v2 = arg m main_arg11 := by unfold V; after_results; try rfl
theorem V_v3 (d : Fin 1024) : V m 0 main_v3 (ix2 0 d) = arg m main_arg8 (ix1 d) := by unfold V; after_results; pointwise []

theorem index0 (t : Fin grid0.N) : ((cfgM m hO).win 0).index t = ![((plan m).tile (item (grid0.coords t))).toNat, 0] := ix_tile m (grid0.coords t)
theorem index1 (t : Fin grid0.N) : ((cfgM m hO).win 1).index t = ![0, 0] := rfl
theorem index2 (t : Fin grid0.N) : ((cfgM m hO).win 2).index t = ![((plan m).ea (item (grid0.coords t))).toNat, 0, 0] := ix_ga m (grid0.coords t)
theorem index3 (t : Fin grid0.N) : ((cfgM m hO).win 3).index t = ![((plan m).ea (item (grid0.coords t))).toNat, 0, 0] := ix_ua m (grid0.coords t)
theorem index4 (t : Fin grid0.N) : ((cfgM m hO).win 4).index t = ![((plan m).ea (item (grid0.coords t))).toNat, 0, 0] := ix_da m (grid0.coords t)
theorem index5 (t : Fin grid0.N) : ((cfgM m hO).win 5).index t = ![((plan m).eb (item (grid0.coords t))).toNat, 0, 0] := ix_gb m (grid0.coords t)
theorem index6 (t : Fin grid0.N) : ((cfgM m hO).win 6).index t = ![((plan m).eb (item (grid0.coords t))).toNat, 0, 0] := ix_ub m (grid0.coords t)
theorem index7 (t : Fin grid0.N) : ((cfgM m hO).win 7).index t = ![((plan m).eb (item (grid0.coords t))).toNat, 0, 0] := ix_db m (grid0.coords t)

theorem blk_x (t : Fin grid0.N) (hT : ((plan m).tile (item (grid0.coords t))).toNat < 64) (r : Fin 512) (l : Fin 1152) :
    iblk m hO 0 0 t (ix2 r l) = arg m main_arg7 (ix2 (rowOf ⟨_, hT⟩ r) l) := by
  rw [← V_xs]
  blk_ext [iblk, V, index0 m hO t, rowOf]

theorem blk_gain (t : Fin grid0.N) (d : Fin 1024) : iblk m hO 0 1 t (ix2 0 d) = arg m main_arg8 (ix1 d) := by
  rw [← V_v3]
  blk_ext [iblk, V, index1 m hO t]

theorem blk_ga (t : Fin grid0.N) (hT : ((plan m).ea (item (grid0.coords t))).toNat < 16) (d : Fin 1024) (f : Fin 256) :
    iblk m hO 0 2 t (ix3 0 d f) = arg m main_arg9 (ix3 ⟨_, hT⟩ d f) := by
  rw [← V_v0]
  blk_ext [iblk, V, index2 m hO t]

theorem blk_ua (t : Fin grid0.N) (hT : ((plan m).ea (item (grid0.coords t))).toNat < 16) (d : Fin 1024) (f : Fin 256) :
    iblk m hO 0 3 t (ix3 0 d f) = arg m main_arg10 (ix3 ⟨_, hT⟩ d f) := by
  rw [← V_v1]
  blk_ext [iblk, V, index3 m hO t]

theorem blk_da (t : Fin grid0.N) (hT : ((plan m).ea (item (grid0.coords t))).toNat < 16) (f : Fin 256) (j : Fin 1024) :
    iblk m hO 0 4 t (ix3 0 f j) = arg m main_arg11 (ix3 ⟨_, hT⟩ f j) := by
  rw [← V_v2]
  blk_ext [iblk, V, index4 m hO t]

theorem blk_gb (t : Fin grid0.N) (hT : ((plan m).eb (item (grid0.coords t))).toNat < 16) (d : Fin 1024) (f : Fin 256) :
    iblk m hO 0 5 t (ix3 0 d f) = arg m main_arg9 (ix3 ⟨_, hT⟩ d f) := by
  rw [← V_v0]
  blk_ext [iblk, V, index5 m hO t]

theorem blk_ub (t : Fin grid0.N) (hT : ((plan m).eb (item (grid0.coords t))).toNat < 16) (d : Fin 1024) (f : Fin 256) :
    iblk m hO 0 6 t (ix3 0 d f) = arg m main_arg10 (ix3 ⟨_, hT⟩ d f) := by
  rw [← V_v1]
  blk_ext [iblk, V, index6 m hO t]

theorem blk_db (t : Fin grid0.N) (hT : ((plan m).eb (item (grid0.coords t))).toNat < 16) (f : Fin 256) (j : Fin 1024) :
    iblk m hO 0 7 t (ix3 0 f j) = arg m main_arg11 (ix3 ⟨_, hT⟩ f j) := by
  rw [← V_v2]
  blk_ext [iblk, V, index7 m hO t]

theorem xLanes_at (x0 : Vec Ideal S512x1152 .f32) (r : Fin 512) (d : Fin 1024) : xLanes x0 (ix2 r d) = x0 (ix2 r (rowLane d)) := by
  unfold xLanes; blk_ext [rowLane]

theorem gLanes_at (x0 : Vec Ideal S512x1152 .f32) (r : Fin 512) (e : Fin 16) : gLanes x0 (ix2 r ⟨e.val, by omega⟩) = x0 (ix2 r (gateLane e)) := by
  unfold gLanes; blk_ext [gateLane]

/-! ## The arguments, by coordinates -/

abbrev xsOf (i : Fin 32768) (l : Fin 1152) : EReal := arg m main_arg7 (ix2 i l)
abbrev gainOf (d : Fin 1024) : EReal := arg m main_arg8 (ix1 d)
abbrev wgOf (e : Fin 16) (d : Fin 1024) (f : Fin 256) : EReal := arg m main_arg9 (ix3 e d f)
abbrev wuOf (e : Fin 16) (d : Fin 1024) (f : Fin 256) : EReal := arg m main_arg10 (ix3 e d f)
abbrev wdOf (e : Fin 16) (f : Fin 256) (j : Fin 1024) : EReal := arg m main_arg11 (ix3 e f j)

/-- An expert's share of a row of the launch's arguments. -/
abbrev shareOf (i : Fin 32768) (j : Fin 1024) (e : Fin 16) : EReal := expertShare (xsOf m) (gainOf m) (wgOf m) (wuOf m) (wdOf m) i j e

/-- What an item adds to a row of its tile: the shares of its two experts, where the row is one of the item's. -/
theorem addend_at (hR : (plan m).InRange) (t : Fin grid0.N) (r : Fin 512) (j : Fin 1024) :
    addend m hO t (ix2 r j)
      = (if ((plan m).lo (item (grid0.coords t))).toInt ≤ (r.val : Int) ∧ (r.val : Int) < ((plan m).hi (item (grid0.coords t))).toInt
          then shareOf m (rowOf ⟨_, hR.tile (item (grid0.coords t))⟩ r) j ⟨((plan m).ea (item (grid0.coords t))).toNat, hR.ea _⟩ else 0)
        + (if ((plan m).lo (item (grid0.coords t))).toInt ≤ (r.val : Int) ∧ (r.val : Int) < ((plan m).hi (item (grid0.coords t))).toInt
          then shareOf m (rowOf ⟨_, hR.tile (item (grid0.coords t))⟩ r) j ⟨((plan m).eb (item (grid0.coords t))).toNat, hR.eb _⟩ else 0) := by
  rw [← expertAt_gate, ← expertAt_gate]
  unfold addend
  refine (moe_at (iblk m hO 0 0 t) (iblk m hO 0 1 t) (iblk m hO 0 2 t) (iblk m hO 0 3 t) (iblk m hO 0 4 t) (iblk m hO 0 5 t) (iblk m hO 0 6 t) (iblk m hO 0 7 t)
    _ _ _ _ (hR.ea (item (grid0.coords t))) (hR.eb (item (grid0.coords t))) r j).trans ?_
  unfold expertAt
  simp only [xLanes_at, blk_x m hO t (hR.tile _), blk_gain, blk_ga m hO t (hR.ea _), blk_ua m hO t (hR.ea _), blk_da m hO t (hR.ea _),
    blk_gb m hO t (hR.eb _), blk_ub m hO t (hR.eb _), blk_db m hO t (hR.eb _)]
  have g : ∀ (e : ℕ) (he : e < 16) (h' : e < 128), gLanes (iblk m hO 0 0 t) (ix2 r ⟨e, h'⟩) = xsOf m (rowOf ⟨_, hR.tile (item (grid0.coords t))⟩ r) (gateLane ⟨e, he⟩) :=
    fun e he h' => (gLanes_at _ r ⟨e, he⟩).trans (blk_x m hO t _ r _)
  have x : ∀ d : Fin 1024, xLanes (iblk m hO 0 0 t) (ix2 r d) = xsOf m (rowOf ⟨_, hR.tile (item (grid0.coords t))⟩ r) (rowLane d) :=
    fun d => (xLanes_at _ r d).trans (blk_x m hO t _ r _)
  rw [g _ (hR.ea _), g _ (hR.eb _), funext x]

end Cert.KernelIdeal.Moe

end
-- ==== Proof.IdealValue.lean ====
module

public import proofs.«01_k».proof.Proof.IdealBlocks

/-! The expert call's result: every row of every tile ends as the layer's row. -/

@[expose] public section

set_option maxRecDepth 16384

noncomputable section

namespace Cert.KernelIdeal.Moe

open Cert.KernelIdeal.Gen Cert.Moe
open Idealize.ShloMosaic Idealize.ShloMosaic.TcCoe Idealize.ShloMosaic.Tactic
open Idealize.ShloMosaic.Pipeline (Dat Cfg Window)

variable (m : (ℓ : Loc nD τ sig) → Buf (Elt Ideal) ℓ) (hO : Ok m)

theorem pay1_at (xl M : Vec Ideal S512x1024 .f32) (r : Fin 512) (j : Fin 1024) : k0_pay1 (F := Ideal) xl M (ix2 r j) = xl (ix2 r j) + M (ix2 r j) := by
  pointwise [k0_pay1]
theorem pay2_at (M o : Vec Ideal S512x1024 .f32) (r : Fin 512) (j : Fin 1024) : k0_pay2 (F := Ideal) M o (ix2 r j) = o (ix2 r j) + M (ix2 r j) := by
  pointwise [k0_pay2]

/-- A grid point's item is the point's own number. -/
theorem item_eq (n : ℕ) (h : n < 88) : item (grid0.coords (⟨n, h⟩ : Fin grid0.N)) = ⟨n, h⟩ := Fin.ext (item_val ⟨n, h⟩)

/-- The layer of the launch's arguments. -/
abbrev layerOf (i : Fin 32768) (j : Fin 1024) : EReal := layer (xsOf m) (gainOf m) (wgOf m) (wuOf m) (wdOf m) i j

/-- Tile `T`'s own row, where there is such a tile. -/
def start (r : Fin 512) (j : Fin 1024) (T : ℕ) : EReal := if h : T < 64 then xsOf m (rowOf ⟨T, h⟩ r) (rowLane j) else 0

theorem xl_at (hR : (plan m).InRange) (n : ℕ) (h : n < 88) (r : Fin 512) (j : Fin 1024) :
    xLanes (iblk m hO 0 0 (⟨n, h⟩ : Fin grid0.N)) (ix2 r j) = start m r j ((plan m).tile ⟨n, h⟩).toNat := by
  rw [start, dif_pos (hR.tile _)]
  refine (xLanes_at _ r j).trans ((blk_x m hO (⟨n, h⟩ : Fin grid0.N) (hR.tile _) r _).trans ?_)
  have e : ∀ (k k' : Fin 88) (hk : k = k') (h1 : ((plan m).tile k).toNat < 64) (h2 : ((plan m).tile k').toNat < 64),
      xsOf m (rowOf ⟨_, h1⟩ r) (rowLane j) = xsOf m (rowOf ⟨_, h2⟩ r) (rowLane j) := by
    intro k k' hk h1 h2; subst hk; rfl
  exact e _ _ (item_eq n h) _ _

theorem outs_at (hR : (plan m).InRange) (hW : (plan m).Walks) (r : Fin 512) (j : Fin 1024) (n : ℕ) (h : n < 88) :
    outsAt m hO n (ix2 r j) = start m r j ((plan m).tile ⟨n, h⟩).toNat
      + ∑ k ∈ Finset.range (n + 1), (plan m).added (fun k => addend m hO (⟨k.val, k.isLt⟩ : Fin grid0.N) (ix2 r j)) ((plan m).tile ⟨n, h⟩).toNat k := by
  refine hW.sum_upto (start m r j) (fun k => addend m hO (⟨k.val, k.isLt⟩ : Fin grid0.N) (ix2 r j)) (fun n => outsAt m hO n (ix2 r j)) ?_ ?_ ?_ n h
  · intro n h hv hf
    have ho : opens m (grid0.coords (⟨n, h⟩ : Fin grid0.N)) := ⟨by rw [item_eq n h]; exact hv, by rw [item_eq n h]; exact hf⟩
    show outsAt m hO n (ix2 r j) = _
    rw [← out_opens' m hO ⟨n, h⟩ ho (fun _ => (0 : EReal)), out_opens m hO ⟨n, h⟩ ho, pay1_at]
    exact congrArg (· + _) (xl_at m hO hR n h r j)
  · intro n h hv hf
    have hj : joins m (grid0.coords (⟨n + 1, h⟩ : Fin grid0.N)) := ⟨by rw [item_eq (n + 1) h]; exact hv, by rw [item_eq (n + 1) h]; exact hf⟩
    show outsAt m hO (n + 1) (ix2 r j) = _
    rw [outsAt_succ m hO n h, stepAt_eq, step_joins m _ hj, pay2_at]
  · intro n h hv
    have h1 : ¬opens m (grid0.coords (⟨n + 1, h⟩ : Fin grid0.N)) := fun ho => hv (by have := ho.1; rwa [item_eq (n + 1) h] at this)
    have h2 : ¬joins m (grid0.coords (⟨n + 1, h⟩ : Fin grid0.N)) := fun ho => hv (by have := ho.1; rwa [item_eq (n + 1) h] at this)
    show outsAt m hO (n + 1) (ix2 r j) = _
    rw [outsAt_succ m hO n h, stepAt_eq, step_rest m _ h1 h2]

/-- What an item adds to a row of a tile, as a sum over all experts. -/
theorem added_eq (hR : (plan m).InRange) (T : Fin 64) (k : Fin 88) (r : Fin 512) (j : Fin 1024) :
    (if (plan m).valid k ∧ ((plan m).tile k).toNat = T.val then addend m hO (⟨k.val, k.isLt⟩ : Fin grid0.N) (ix2 r j) else 0)
      = ∑ e : Fin 16, (plan m).hit k T r e • shareOf m (rowOf T r) j e := by
  rw [← (plan m).slots_eq hR k T r (shareOf m (rowOf T r) j)]
  by_cases h : (plan m).valid k ∧ ((plan m).tile k).toNat = T.val
  · rw [if_pos h, if_pos h, addend_at m hO hR]
    have e : ∀ (i : Fin 88) (hi : i = k) (h1 : ((plan m).tile i).toNat < 64) (h2 : ((plan m).ea i).toNat < 16) (h3 : ((plan m).eb i).toNat < 16),
        (if ((plan m).lo i).toInt ≤ (r.val : Int) ∧ (r.val : Int) < ((plan m).hi i).toInt then shareOf m (rowOf ⟨((plan m).tile i).toNat, h1⟩ r) j ⟨((plan m).ea i).toNat, h2⟩ else 0)
          + (if ((plan m).lo i).toInt ≤ (r.val : Int) ∧ (r.val : Int) < ((plan m).hi i).toInt then shareOf m (rowOf ⟨((plan m).tile i).toNat, h1⟩ r) j ⟨((plan m).eb i).toNat, h3⟩ else 0)
        = (if ((plan m).lo k).toInt ≤ (r.val : Int) ∧ (r.val : Int) < ((plan m).hi k).toInt then shareOf m (rowOf T r) j ⟨((plan m).ea k).toNat, hR.ea k⟩ else 0)
          + (if ((plan m).lo k).toInt ≤ (r.val : Int) ∧ (r.val : Int) < ((plan m).hi k).toInt then shareOf m (rowOf T r) j ⟨((plan m).eb k).toNat, hR.eb k⟩ else 0) := by
      intro i hi h1 h2 h3
      subst hi
      rw [show (⟨((plan m).tile i).toNat, h1⟩ : Fin 64) = T from Fin.ext h.2]
    exact e _ (item_eq k.val k.isLt) _ _ _
  · rw [if_neg h, if_neg h]

/-- Where a tile is left, its block holds the layer's rows. -/
theorem outs_final (hR : (plan m).InRange) (hW : (plan m).Walks) (hC : (plan m).Once (arg m main_arg7)) (n : ℕ) (h : n < 88)
    (hlast : n + 1 = 88 ∨ ∃ h' : n + 1 < 88, ((plan m).tile ⟨n + 1, h'⟩).toNat ≠ ((plan m).tile ⟨n, h⟩).toNat) (r : Fin 512) (j : Fin 1024) :
    outsAt m hO n (ix2 r j) = layerOf m (rowOf ⟨_, hR.tile ⟨n, h⟩⟩ r) j := by
  rw [outs_at m hO hR hW r j n h, hW.sum_all _ n h hlast, start, dif_pos (hR.tile _)]
  unfold layerOf layer
  congr 1
  refine (Finset.sum_congr rfl fun k _ => added_eq m hO hR ⟨_, hR.tile ⟨n, h⟩⟩ k r j).trans ?_
  refine (plan m).sum_hits ⟨_, hR.tile ⟨n, h⟩⟩ r _ fun e => ?_
  exact (hC ⟨_, hR.tile ⟨n, h⟩⟩ r e).imp_left fun h0 => expertShare_of_gate _ _ _ _ _ _ _ _ h0

/-- The layer, as the result's array. -/
def result : Vec Ideal S32768x1024 .f32 := fun i => layerOf m ⟨(i 0).val, (i 0).isLt⟩ ⟨(i 1).val, (i 1).isLt⟩

/-- Every block of the result is written back at some point: where its tile is left. -/
theorem covers (hR : (plan m).InRange) (hW : (plan m).Walks) : ((cfgM m hO).win 8).Covers := by
  refine ⟨fun a => ?_, fun β => ?_⟩
  · match a with
    | ⟨0, _⟩ => exact (show 0 < 512 by decide)
    | ⟨1, _⟩ => exact (show 0 < 1024 by decide)
  · have e0 : ((cfgM m hO).win 8).nblk (⟨0, (show 0 < 2 by decide)⟩ : Fin 2) = 64 :=
      congrArg₂ (fun s b : ℕ => (s + b - 1) / b) (show ((cfgM m hO).win 8).shape.size (⟨0, (show 0 < 2 by decide)⟩ : Fin 2) = 32768 from rfl)
        (show ((cfgM m hO).win 8).size (⟨0, (show 0 < 2 by decide)⟩ : Fin 2) = 512 from rfl)
    have e1 : ((cfgM m hO).win 8).nblk (⟨1, (show 1 < 2 by decide)⟩ : Fin 2) = 1 :=
      congrArg₂ (fun s b : ℕ => (s + b - 1) / b) (show ((cfgM m hO).win 8).shape.size (⟨1, (show 1 < 2 by decide)⟩ : Fin 2) = 1024 from rfl)
        (show ((cfgM m hO).win 8).size (⟨1, (show 1 < 2 by decide)⟩ : Fin 2) = 1024 from rfl)
    have b0 : (β (⟨0, (show 0 < 2 by decide)⟩ : Fin 2)).val < 64 := Nat.lt_of_lt_of_eq (β (⟨0, (show 0 < 2 by decide)⟩ : Fin 2)).isLt e0
    have b1 : (β (⟨1, (show 1 < 2 by decide)⟩ : Fin 2)).val < 1 := Nat.lt_of_lt_of_eq (β (⟨1, (show 1 < 2 by decide)⟩ : Fin 2)).isLt e1
    obtain ⟨n, h, hT, hl⟩ := hW.leaves ⟨_, b0⟩
    refine ⟨(⟨n, h⟩ : Fin grid0.N), (flush_iff m hO ⟨n, h⟩).2 hl, fun a => ⟨?_, .inl rfl⟩⟩
    rw [index_eq m hO ⟨n, h⟩, item_eq n h]
    match a with
    | ⟨0, _⟩ => exact hT
    | ⟨1, _⟩ => exact (Nat.lt_one_iff.1 b1).symm

/-- Where a block's entry lies in the result. -/
def place (t : Fin grid0.N) (y : S512x1024.Idx) : S32768x1024.Idx := (((cfgM m hO).win 8).blk t).view.emb y

theorem place0 (t : Fin grid0.N) (y : S512x1024.Idx) : (place m hO t y 0 : ℕ) = ((plan m).tile ⟨t.val, t.isLt⟩).toNat * 512 + y 0 := by
  unfold place
  blk_simp [index_eq m hO t, item_eq t.val t.isLt]

theorem place1 (t : Fin grid0.N) (y : S512x1024.Idx) : (place m hO t y 1 : ℕ) = y 1 := by
  unfold place
  blk_simp [index_eq m hO t, item_eq t.val t.isLt]

theorem arr_out (hR : (plan m).InRange) (hW : (plan m).Walks) (hC : (plan m).Once (arg m main_arg7)) :
    (dats m hO (out m hO) 0 0).arrAt 8 (cfgM m hO).N = result m := by
  refine (dats m hO (out m hO) 0 0).arrAt_eq_of_covers 8 _ (covers m hO hR hW) fun t hf (y : S512x1024.Idx) => ?_
  blk_simp
  rw [after8]
  obtain ⟨r, j, rfl⟩ : ∃ (r : Fin 512) (j : Fin 1024), y = ix2 r j := ⟨y 0, y 1, funext fun a => by
    match a with
    | ⟨0, _⟩ => rfl
    | ⟨1, _⟩ => rfl⟩
  refine (outs_final m hO hR hW hC t.val t.isLt ((flush_iff m hO t).1 hf) r j).trans ?_
  show _ = result m (place m hO t (ix2 r j))
  unfold result
  exact congrArg₂ (layerOf m) (Fin.ext (place0 m hO t (ix2 r j)).symm) (Fin.ext (place1 m hO t (ix2 r j)).symm)

end Cert.KernelIdeal.Moe

end
-- ==== Proof.RefValue.lean ====
module

public import proofs.«01_k».proof.Proof.Gen.ReferenceIdeal.Read
public import proofs.«01_k».proof.Proof.Layer
public import Idealize.ShloMosaic.Lib.Pointwise
public import Idealize.ShloMosaic.Lib.Pipeline.ValueKit

/-! The reference's result, entry by entry: the layer of the arguments. -/

@[expose] public section

noncomputable section

namespace Cert.ReferenceIdeal.Moe

open Cert.Moe Cert.ReferenceIdeal.Read
open Idealize.ShloMosaic

variable (x7 : Vec Ideal S32768x1152 .f32) (x8 : Vec Ideal S1024 .f32) (x9 x10 : Vec Ideal S16x1024x256 .f32) (x11 : Vec Ideal S16x256x1024 .f32)

theorem row_at (i : Fin 32768) (d : Fin 1024) : val_main_v0 (F := Ideal) x7 (ix2 i d) = x7 (ix2 i (rowLane d)) := by
  pointwise [val_main_v0]
  rfl

theorem normed_at (i : Fin 32768) (d : Fin 1024) :
    val_main_v14 (F := Ideal) x7 x8 (ix2 i d) = normed (fun d => x7 (ix2 i (rowLane d))) (fun d => x8 (ix1 d)) d := by
  unfold normed
  pointwise [val_main_v14, val_main_v13, val_main_v12, val_main_v11, val_main_v10, val_main_v9, val_main_v8, val_main_v7, val_main_v6, val_main_v5, val_main_v4, val_main_v3, val_main_v2, val_main_cst, val_main_cst_0, val_main_cst_1, row_at]

theorem gates_at (i : Fin 32768) (e : Fin 16) : val_main_v1 (F := Ideal) x7 (ix2 i e) = x7 (ix2 i (gateLane e)) := by
  pointwise [val_main_v1]
  rfl

theorem gate_act_at (i : Fin 32768) (e : Fin 16) (f : Fin 256) : val_main_v15 (F := Ideal) x7 x8 x9 (ix3 i e f)
    = act (normed (fun d => x7 (ix2 i (rowLane d))) (fun d => x8 (ix1 d))) (fun d f => x9 (ix3 e d f)) f := by
  unfold act
  pointwise [val_main_v15, normed_at]

theorem up_act_at (i : Fin 32768) (e : Fin 16) (f : Fin 256) : val_main_v16 (F := Ideal) x7 x8 x10 (ix3 i e f)
    = act (normed (fun d => x7 (ix2 i (rowLane d))) (fun d => x8 (ix1 d))) (fun d f => x10 (ix3 e d f)) f := by
  unfold act
  pointwise [val_main_v16, normed_at]

theorem hidden_at (i : Fin 32768) (e : Fin 16) (f : Fin 256) : val_main_v21 (F := Ideal) x7 x8 x9 x10 (ix3 i e f)
    = act (normed (fun d => x7 (ix2 i (rowLane d))) (fun d => x8 (ix1 d))) (fun d f => x9 (ix3 e d f)) f
      * Ideal.logistic (act (normed (fun d => x7 (ix2 i (rowLane d))) (fun d => x8 (ix1 d))) (fun d f => x9 (ix3 e d f)) f)
      * act (normed (fun d => x7 (ix2 i (rowLane d))) (fun d => x8 (ix1 d))) (fun d f => x10 (ix3 e d f)) f
      * x7 (ix2 i (gateLane e)) := by
  pointwise [val_main_v21, val_main_v20, val_main_v19, val_main_v18, val_main_v17, val_main_call0_v5, val_main_call0_v4, val_main_call0_cst_0, val_main_call0_v3,
    val_main_call0_v2, val_main_call0_cst, val_main_call0_v1, val_main_call0_v0, gate_act_at, up_act_at, gates_at]
  rfl

/-- The reference's result is the layer. -/
theorem result_at (i : Fin 32768) (j : Fin 1024) : val_main_v25 (F := Ideal) x7 x8 x9 x10 x11 (ix2 i j)
    = layer (fun i l => x7 (ix2 i l)) (fun d => x8 (ix1 d)) (fun e d f => x9 (ix3 e d f)) (fun e d f => x10 (ix3 e d f)) (fun e f j => x11 (ix3 e f j)) i j := by
  unfold layer expertShare expertAt share
  pointwise [val_main_v25, val_main_v24, val_main_v23, val_main_v22, row_at, hidden_at]
  congr 1
  exact Fin.sum_divmod_congr fun t _ _ => rfl

end Cert.ReferenceIdeal.Moe

end
-- ==== Proof.MergeMath.lean ====
module

public import proofs.«01_k».proof.Proof.Math

/-! The merge of the two mixers, row by row over the extended reals. -/

@[expose] public section

noncomputable section

namespace Cert.Moe

open Idealize.ShloMosaic

/-- The smooth rectifier, in its tanh form. -/
def gelu (x : EReal) : EReal :=
  x * (Ideal.ofBits FTy.f32 1056964608#32 * (Ideal.ofBits FTy.f32 1065353216#32
    + Ideal.tanh (Ideal.ofBits FTy.f32 1061962282#32 * (x + Ideal.ofBits FTy.f32 1027024659#32 * (x * (x * x))))))

/-- One branch's gate on channel `l` (the second branch's channels come after the first's). -/
def branchGate (h : Fin 1024 → EReal) (w : Fin 1024 → Fin 2048 → EReal) (b : Fin 2048 → EReal) (l : Fin 2048) : EReal :=
  Ideal.logistic ((∑ d, h d * w d l) + b l)

/-- The scan's output after its gated linear unit. -/
def glued (y : Fin 512 → EReal) (w : Fin 512 → Fin 512 → EReal) (b : Fin 512 → EReal) (k : Fin 512) : EReal :=
  gelu (y k) * Ideal.logistic ((∑ q, gelu (y q) * w q k) + b k)

/-- The first branch's gate on a channel, and the second's. -/
def firstLane (j : Fin 1024) : Fin 2048 := ⟨j.val, by omega⟩
def secondLane (j : Fin 1024) : Fin 2048 := ⟨1024 + j.val, by omega⟩

/-- The rows of the branch weights that belong to the attention, and to the scan. -/
def attnRow (k : Fin 512) : Fin 1024 := ⟨k.val, by omega⟩
def scanRow (k : Fin 512) : Fin 1024 := ⟨512 + k.val, by omega⟩

/-- The two gated branches of a row, added up. -/
def branches (x gain : Fin 1024 → EReal) (ya yp : Fin 512 → EReal) (wg : Fin 1024 → Fin 2048 → EReal) (bg : Fin 2048 → EReal)
    (wl : Fin 512 → Fin 512 → EReal) (bl : Fin 512 → EReal) (wb : Fin 1024 → Fin 1024 → EReal) (d : Fin 1024) : EReal :=
  branchGate (normed x gain) wg bg (firstLane d) * (∑ k, ya k * wb (attnRow k) d)
    + branchGate (normed x gain) wg bg (secondLane d) * (∑ k, glued yp wl bl k * wb (scanRow k) d)

/-- The residual stream after the merge. -/
def stream (x gain : Fin 1024 → EReal) (ya yp : Fin 512 → EReal) (wg : Fin 1024 → Fin 2048 → EReal) (bg : Fin 2048 → EReal)
    (wl : Fin 512 → Fin 512 → EReal) (bl : Fin 512 → EReal) (wb wo : Fin 1024 → Fin 1024 → EReal) (j : Fin 1024) : EReal :=
  x j + ∑ d, branches x gain ya yp wg bg wl bl wb d * wo d j

end Cert.Moe

end
-- ==== Proof.MergePay.lean ====
module

public import proofs.«01_k».proof.Proof.Gen.Kernel2Ideal.Skeleton
public import proofs.«01_k».proof.Proof.MergeMath
public import Idealize.ShloMosaic.Lib.Pointwise
public import Idealize.ShloMosaic.Lib.Pipeline.ValueKit

/-! What the merge's body computes of its blocks, entry by entry. -/

@[expose] public section

noncomputable section

namespace Cert.Kernel2Ideal.Moe

open Cert.Moe Cert.Kernel2Ideal.Gen
open Idealize.ShloMosaic

theorem pay1_at (x : Vec Ideal S512x1024 .f32) (g : Vec Ideal S1x1024 .f32) (r : Fin 512) (d : Fin 1024) :
    k0_pay1 (F := Ideal) x g (ix2 r d) = normed (fun d => x (ix2 r d)) (fun d => g (ix2 0 d)) d := by
  unfold normed
  pointwise [k0_pay1]

theorem pay2_at (y : Vec Ideal S512x512 .bf16) (w : Vec Ideal S512x512 .bf16) (b : Vec Ideal S1x512 .f32) (r : Fin 512) (k : Fin 512) :
    k0_pay2 (F := Ideal) y w b (ix2 r k) = glued (fun k => y (ix2 r k)) (fun q k => w (ix2 q k)) (fun k => b (ix2 0 k)) k := by
  unfold glued gelu
  pointwise [k0_pay2]

theorem pay3_at (x : Vec Ideal S512x1024 .f32) (h : FVec Ideal S512x1024 .bf16) (u : FVec Ideal S512x512 .f32) (ya : Vec Ideal S512x512 .bf16)
    (w1 : Vec Ideal S1024x1024 .bf16) (b1 : Vec Ideal S1x1024 .f32) (va : Vec Ideal S512x1024 .bf16) (w2 : Vec Ideal S1024x1024 .bf16) (b2 : Vec Ideal S1x1024 .f32)
    (vs : Vec Ideal S512x1024 .bf16) (wo : Vec Ideal S1024x1024 .bf16) (r : Fin 512) (j : Fin 1024) :
    k0_pay3 (F := Ideal) x h u ya w1 b1 va w2 b2 vs wo (ix2 r j)
      = x (ix2 r j) + ∑ d : Fin 1024, (Ideal.logistic ((∑ e : Fin 1024, h (ix2 r e) * w1 (ix2 e d)) + b1 (ix2 0 d)) * (∑ k : Fin 512, ya (ix2 r k) * va (ix2 k d))
          + Ideal.logistic ((∑ e : Fin 1024, h (ix2 r e) * w2 (ix2 e d)) + b2 (ix2 0 d)) * (∑ k : Fin 512, u (ix2 r k) * vs (ix2 k d))) * wo (ix2 d j) := by
  pointwise [k0_pay3]

end Cert.Kernel2Ideal.Moe

end
-- ==== Proof.MergePoint.lean ====
module

public import proofs.«01_k».proof.Proof.Gen.Kernel2Ideal.Value
public import proofs.«01_k».proof.Proof.MergePay
public import proofs.«01_k».proof.Proof.Layer

/-! What a point of the merge leaves in its block of the result: the stream's lanes. -/

@[expose] public section

set_option maxRecDepth 16384

noncomputable section

namespace Cert.Kernel2Ideal.Moe

open Cert.Kernel2Ideal.Gen Cert.Moe
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The stream's rows as the body computes them of the point's blocks. -/
def streamPay (t : Fin cfg0.N) : Vec Ideal S512x1024 .f32 :=
  k0_pay3 (View.ld (iblk m 0 0 t) (Rect.unit ![0, 0] ![512, 1024] inb_S512x1024_S512x1024_0_0))
      (k0_pay1 (View.ld (iblk m 0 0 t) (Rect.unit ![0, 0] ![512, 1024] inb_S512x1024_S512x1024_0_0))
        (View.ld (iblk m 0 3 t) (Rect.unit ![0, 0] ![1, 1024] inb_S1x1024_S1x1024_0_0)))
      (k0_pay2 (View.ld (iblk m 0 2 t) (Rect.unit ![0, 0] ![512, 512] inb_S512x512_S512x512_0_0))
        (View.ld (iblk m 0 6 t) (Rect.unit ![0, 0] ![512, 512] inb_S512x512_S512x512_0_0))
        (View.ld (iblk m 0 7 t) (Rect.unit ![0, 0] ![1, 512] inb_S1x512_S1x512_0_0)))
      (View.ld (iblk m 0 1 t) (Rect.unit ![0, 0] ![512, 512] inb_S512x512_S512x512_0_0))
      (View.ld (iblk m 0 4 t) (Rect.unit ![0, 0] ![1024, 1024] inb_S1024x2048_S1024x1024_0_0))
      (View.ld (iblk m 0 5 t) (Rect.unit ![0, 0] ![1, 1024] inb_S1x2048_S1x1024_0_0))
      (View.ld (iblk m 0 8 t) (Rect.unit ![0, 0] ![512, 1024] inb_S512x1024_S512x1024_0_0))
      (View.ld (iblk m 0 4 t) (Rect.unit ![0, 1024] ![1024, 1024] inb_S1024x2048_S1024x1024_0_1024))
      (View.ld (iblk m 0 5 t) (Rect.unit ![0, 1024] ![1, 1024] inb_S1x2048_S1x1024_0_1024))
      (View.ld (iblk m 0 9 t) (Rect.unit ![0, 0] ![512, 1024] inb_S512x1024_S512x1024_0_0))
      (View.ld (iblk m 0 10 t) (Rect.unit ![0, 0] ![1024, 1024] inb_S1024x1024_S1024x1024_0_0))

theorem point_A (t : Fin cfg0.N) (h0 : t.val % 64 = 0) (r : Fin 512) (j : Fin 1024) :
    (outsAt0 m (0 : Dev nD) t.val t.isLt).1 (ix2 r (rowLane j)) = streamPay m t (ix2 r j) := by
  rw [outsAt0_A m (0 : Dev nD) t h0]
  unfold out0_A_15
  unfold kernelRun0_A
  dsimp only
  sl_unfold_words
  refine (View.read_writes_cons_miss_of_axis _ _ _ _ _ (1 : Fin 2) 1024 128 rfl rfl rfl (.inl j.isLt)).trans ?_
  refine (View.read_writes_cons_hit_of_coords _ _ _ _ _ (ix2 r j) _ (fun a => ?_)).trans ?_
  · match a with
    | ⟨0, _⟩ => simp [ix2]
    | ⟨1, _⟩ => simp [ix2, rowLane]
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread, (hs0_10 t).read_unread]
  rfl

theorem point_B (t : Fin cfg0.N) (h0 : ¬t.val % 64 = 0) (r : Fin 512) (j : Fin 1024) :
    (outsAt0 m (0 : Dev nD) t.val t.isLt).1 (ix2 r (rowLane j)) = streamPay m t (ix2 r j) := by
  rw [outsAt0_B m (0 : Dev nD) t h0]
  unfold out0_B_15
  unfold kernelRun0_B
  dsimp only
  sl_unfold_words
  refine (View.read_writes_cons_miss_of_axis _ _ _ _ _ (1 : Fin 2) 1024 128 rfl rfl rfl (.inl j.isLt)).trans ?_
  refine (View.read_writes_cons_hit_of_coords _ _ _ _ _ (ix2 r j) _ (fun a => ?_)).trans ?_
  · match a with
    | ⟨0, _⟩ => simp [ix2]
    | ⟨1, _⟩ => simp [ix2, rowLane]
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread, (hs0_10 t).read_unread]
  rfl

theorem point (t : Fin cfg0.N) (r : Fin 512) (j : Fin 1024) :
    (outsAt0 m (0 : Dev nD) t.val t.isLt).1 (ix2 r (rowLane j)) = streamPay m t (ix2 r j) := by
  by_cases h0 : t.val % 64 = 0
  · exact point_A m t h0 r j
  · exact point_B m t h0 r j

end Cert.Kernel2Ideal.Moe

end
-- ==== Proof.MergeBlocks.lean ====
module

public import proofs.«01_k».proof.Proof.MergePoint

/-! The merge's blocks as entries of the arguments, and the stream's rows of its result. -/

@[expose] public section

set_option maxRecDepth 16384

noncomputable section

namespace Cert.Kernel2Ideal.Moe

open Cert.Kernel2Ideal.Gen Cert.Moe
open Idealize.ShloMosaic Idealize.ShloMosaic.TcCoe Idealize.ShloMosaic.Tactic
open Idealize.ShloMosaic.Pipeline (Dat Cfg Window)

variable (m : (ℓ : Loc nD τ sig) → Buf (Elt Ideal) ℓ)

abbrev arg (b : Ref sig .tc) : Buf (Elt Ideal) (((0 : Dev nD).tc : Thread nD τ).loc b) := m (((0 : Dev nD).tc : Thread nD τ).loc b)

theorem V_v13 (d : Fin 1024) : V m 0 main_v13 (ix2 0 d) = arg m main_arg3 (ix1 d) := by
  simp only [V, hostOps0, hostOps0_1, hostOps0_2, List.flatten_cons, List.flatten_nil, List.append_nil, List.cons_append, List.nil_append]
  after_results
  pointwise []
theorem V_v14 : V m 0 main_v14 = arg m main_arg4 := by
  simp only [V, hostOps0, hostOps0_1, hostOps0_2, List.flatten_cons, List.flatten_nil, List.append_nil, List.cons_append, List.nil_append]
  after_results
  try rfl
theorem V_v15 (d : Fin 2048) : V m 0 main_v15 (ix2 0 d) = arg m main_arg5 (ix1 d) := by
  simp only [V, hostOps0, hostOps0_1, hostOps0_2, List.flatten_cons, List.flatten_nil, List.append_nil, List.cons_append, List.nil_append]
  after_results
  pointwise []
theorem V_v16 : V m 0 main_v16 = arg m main_arg6 := by
  simp only [V, hostOps0, hostOps0_1, hostOps0_2, List.flatten_cons, List.flatten_nil, List.append_nil, List.cons_append, List.nil_append]
  after_results
  try rfl
theorem V_v17 (d : Fin 512) : V m 0 main_v17 (ix2 0 d) = arg m main_arg7 (ix1 d) := by
  simp only [V, hostOps0, hostOps0_1, hostOps0_2, List.flatten_cons, List.flatten_nil, List.append_nil, List.cons_append, List.nil_append]
  after_results
  pointwise []
theorem V_v19 (k : Fin 512) (d : Fin 1024) : V m 0 main_v19 (ix2 k d) = arg m main_arg8 (ix2 (attnRow k) d) := by
  simp only [V, hostOps0, hostOps0_1, hostOps0_2, List.flatten_cons, List.flatten_nil, List.append_nil, List.cons_append, List.nil_append]
  after_results
  pointwise []
  try rfl
theorem V_v21 (k : Fin 512) (d : Fin 1024) : V m 0 main_v21 (ix2 k d) = arg m main_arg8 (ix2 (scanRow k) d) := by
  simp only [V, hostOps0, hostOps0_1, hostOps0_2, List.flatten_cons, List.flatten_nil, List.append_nil, List.cons_append, List.nil_append]
  after_results
  pointwise []
  try rfl
theorem V_v22 : V m 0 main_v22 = arg m main_arg9 := by
  simp only [V, hostOps0, hostOps0_1, hostOps0_2, List.flatten_cons, List.flatten_nil, List.append_nil, List.cons_append, List.nil_append]
  after_results
  try rfl

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index15 : ∀ t : Fin cfg0.N, win0_15.index t = ![t.val, 0] := (by decide +kernel : ∀ t : Fin grid0.N, win0_15.index t = ![t.val, 0])
theorem flush15 : ∀ t : Fin cfg0.N, (cfg0.win 15).flush t = true := (by decide +kernel : ∀ t : Fin grid0.N, win0_15.flush t = true)

/-- The row of the batch that a block's row is. -/
def rowAt (t : Fin cfg0.N) (r : Fin 512) : Fin 32768 := ⟨t.val * 512 + r.val, by have h : t.val < 64 := t.isLt; omega⟩

theorem blk_x (t : Fin cfg0.N) (r : Fin 512) (d : Fin 1024) : iblk m 0 0 t (ix2 r d) = arg m main_arg0 (ix2 (rowAt t r) d) := by
  refine Eq.trans ?_ (congrFun (V_main_arg0 m 0) _)
  blk_ext [iblk, V, index0 t, rowAt]

theorem blk_ya (t : Fin cfg0.N) (r : Fin 512) (d : Fin 512) : iblk m 0 1 t (ix2 r d) = arg m main_arg1 (ix2 (rowAt t r) d) := by
  refine Eq.trans ?_ (congrFun (V_main_arg1 m 0) _)
  blk_ext [iblk, V, index1 t, rowAt]

theorem blk_yp (t : Fin cfg0.N) (r : Fin 512) (d : Fin 512) : iblk m 0 2 t (ix2 r d) = arg m main_arg2 (ix2 (rowAt t r) d) := by
  refine Eq.trans ?_ (congrFun (V_main_arg2 m 0) _)
  blk_ext [iblk, V, index2 t, rowAt]

theorem blk_gain (t : Fin cfg0.N) (d : Fin 1024) : iblk m 0 3 t (ix2 0 d) = arg m main_arg3 (ix1 d) := by
  rw [← V_v13]
  blk_ext [iblk, V, (show win0_3.index t = ![0, 0] from rfl)]

theorem blk_wg (t : Fin cfg0.N) (d : Fin 1024) (l : Fin 2048) : iblk m 0 4 t (ix2 d l) = arg m main_arg4 (ix2 d l) := by
  rw [← V_v14]
  blk_ext [iblk, V, (show win0_4.index t = ![0, 0] from rfl)]

theorem blk_bg (t : Fin cfg0.N) (l : Fin 2048) : iblk m 0 5 t (ix2 0 l) = arg m main_arg5 (ix1 l) := by
  rw [← V_v15]
  blk_ext [iblk, V, (show win0_5.index t = ![0, 0] from rfl)]

theorem blk_wl (t : Fin cfg0.N) (q k : Fin 512) : iblk m 0 6 t (ix2 q k) = arg m main_arg6 (ix2 q k) := by
  rw [← V_v16]
  blk_ext [iblk, V, (show win0_6.index t = ![0, 0] from rfl)]

theorem blk_bl (t : Fin cfg0.N) (k : Fin 512) : iblk m 0 7 t (ix2 0 k) = arg m main_arg7 (ix1 k) := by
  rw [← V_v17]
  blk_ext [iblk, V, (show win0_7.index t = ![0, 0] from rfl)]

theorem blk_wa (t : Fin cfg0.N) (k : Fin 512) (d : Fin 1024) : iblk m 0 8 t (ix2 k d) = arg m main_arg8 (ix2 (attnRow k) d) := by
  rw [← V_v19]
  blk_ext [iblk, V, (show win0_8.index t = ![0, 0] from rfl)]

theorem blk_ws (t : Fin cfg0.N) (k : Fin 512) (d : Fin 1024) : iblk m 0 9 t (ix2 k d) = arg m main_arg8 (ix2 (scanRow k) d) := by
  rw [← V_v21]
  blk_ext [iblk, V, (show win0_9.index t = ![0, 0] from rfl)]

theorem blk_wo (t : Fin cfg0.N) (d j : Fin 1024) : iblk m 0 10 t (ix2 d j) = arg m main_arg9 (ix2 d j) := by
  rw [← V_v22]
  blk_ext [iblk, V, (show win0_10.index t = ![0, 0] from rfl)]

/-! ## The loads, entry by entry -/

section Loads
variable {e : EltTy}

/-- The columns of each branch's gate. -/
def firstCols (X : Vec Ideal S1024x2048 e) : Vec Ideal S1024x1024 e := fun i => X (ix2 (i 0) (firstLane (i 1)))
def secondCols (X : Vec Ideal S1024x2048 e) : Vec Ideal S1024x1024 e := fun i => X (ix2 (i 0) (secondLane (i 1)))
def firstBias (X : Vec Ideal S1x2048 e) : Vec Ideal S1x1024 e := fun i => X (ix2 (i 0) (firstLane (i 1)))
def secondBias (X : Vec Ideal S1x2048 e) : Vec Ideal S1x1024 e := fun i => X (ix2 (i 0) (secondLane (i 1)))

theorem ld_x (X : Vec Ideal S512x1024 e) : View.ld X (Rect.unit ![0, 0] ![512, 1024] inb_S512x1024_S512x1024_0_0) = X :=
  funext fun i => congrArg X (Rect.emb_eq_of_coords _ _ _ fun a => by match a with | ⟨0, _⟩ => simp [ix2] | ⟨1, _⟩ => simp [ix2])
theorem ld_y (X : Vec Ideal S512x512 e) : View.ld X (Rect.unit ![0, 0] ![512, 512] inb_S512x512_S512x512_0_0) = X :=
  funext fun i => congrArg X (Rect.emb_eq_of_coords _ _ _ fun a => by match a with | ⟨0, _⟩ => simp [ix2] | ⟨1, _⟩ => simp [ix2])
theorem ld_gain (X : Vec Ideal S1x1024 e) : View.ld X (Rect.unit ![0, 0] ![1, 1024] inb_S1x1024_S1x1024_0_0) = X :=
  funext fun i => congrArg X (Rect.emb_eq_of_coords _ _ _ fun a => by match a with | ⟨0, _⟩ => simp [ix2] | ⟨1, _⟩ => simp [ix2])
theorem ld_bl (X : Vec Ideal S1x512 e) : View.ld X (Rect.unit ![0, 0] ![1, 512] inb_S1x512_S1x512_0_0) = X :=
  funext fun i => congrArg X (Rect.emb_eq_of_coords _ _ _ fun a => by match a with | ⟨0, _⟩ => simp [ix2] | ⟨1, _⟩ => simp [ix2])
theorem ld_wo (X : Vec Ideal S1024x1024 e) : View.ld X (Rect.unit ![0, 0] ![1024, 1024] inb_S1024x1024_S1024x1024_0_0) = X :=
  funext fun i => congrArg X (Rect.emb_eq_of_coords _ _ _ fun a => by match a with | ⟨0, _⟩ => simp [ix2] | ⟨1, _⟩ => simp [ix2])
theorem ld_wg1 (X : Vec Ideal S1024x2048 e) : View.ld X (Rect.unit ![0, 0] ![1024, 1024] inb_S1024x2048_S1024x1024_0_0) = firstCols X :=
  funext fun i => congrArg X (Rect.emb_eq_of_coords _ _ _ fun a => by match a with | ⟨0, _⟩ => simp [ix2, firstLane] | ⟨1, _⟩ => simp [ix2, firstLane])
theorem ld_wg2 (X : Vec Ideal S1024x2048 e) : View.ld X (Rect.unit ![0, 1024] ![1024, 1024] inb_S1024x2048_S1024x1024_0_1024) = secondCols X :=
  funext fun i => congrArg X (Rect.emb_eq_of_coords _ _ _ fun a => by match a with | ⟨0, _⟩ => simp [ix2, secondLane] | ⟨1, _⟩ => simp [ix2, secondLane])
theorem ld_bg1 (X : Vec Ideal S1x2048 e) : View.ld X (Rect.unit ![0, 0] ![1, 1024] inb_S1x2048_S1x1024_0_0) = firstBias X :=
  funext fun i => congrArg X (Rect.emb_eq_of_coords _ _ _ fun a => by match a with | ⟨0, _⟩ => simp [ix2, firstLane] | ⟨1, _⟩ => simp [ix2, firstLane])
theorem ld_bg2 (X : Vec Ideal S1x2048 e) : View.ld X (Rect.unit ![0, 1024] ![1, 1024] inb_S1x2048_S1x1024_0_1024) = secondBias X :=
  funext fun i => congrArg X (Rect.emb_eq_of_coords _ _ _ fun a => by match a with | ⟨0, _⟩ => simp [ix2, secondLane] | ⟨1, _⟩ => simp [ix2, secondLane])

end Loads

/-- The stream of the launch's arguments. -/
def streamOf (i : Fin 32768) (j : Fin 1024) : EReal :=
  stream (fun d => arg m main_arg0 (ix2 i d)) (fun d => arg m main_arg3 (ix1 d)) (fun k => arg m main_arg1 (ix2 i k)) (fun k => arg m main_arg2 (ix2 i k))
    (fun d l => arg m main_arg4 (ix2 d l)) (fun l => arg m main_arg5 (ix1 l)) (fun q k => arg m main_arg6 (ix2 q k)) (fun k => arg m main_arg7 (ix1 k))
    (fun k d => arg m main_arg8 (ix2 k d)) (fun d j => arg m main_arg9 (ix2 d j)) j

/-- The stream's rows as the body computes them, on blocks of any contents. -/
theorem streamVal_at (x : Vec Ideal S512x1024 .f32) (ya yp : Vec Ideal S512x512 .bf16) (g : Vec Ideal S1x1024 .f32) (wg : Vec Ideal S1024x2048 .bf16) (bg : Vec Ideal S1x2048 .f32)
    (wl : Vec Ideal S512x512 .bf16) (bl : Vec Ideal S1x512 .f32) (wa ws : Vec Ideal S512x1024 .bf16) (wo : Vec Ideal S1024x1024 .bf16) (wb : Fin 1024 → Fin 1024 → EReal)
    (ha : ∀ k d, wa (ix2 k d) = wb (attnRow k) d) (hs : ∀ k d, ws (ix2 k d) = wb (scanRow k) d) (r : Fin 512) (j : Fin 1024) :
    k0_pay3 (View.ld x (Rect.unit ![0, 0] ![512, 1024] inb_S512x1024_S512x1024_0_0))
      (k0_pay1 (View.ld x (Rect.unit ![0, 0] ![512, 1024] inb_S512x1024_S512x1024_0_0))
        (View.ld g (Rect.unit ![0, 0] ![1, 1024] inb_S1x1024_S1x1024_0_0)))
      (k0_pay2 (View.ld yp (Rect.unit ![0, 0] ![512, 512] inb_S512x512_S512x512_0_0))
        (View.ld wl (Rect.unit ![0, 0] ![512, 512] inb_S512x512_S512x512_0_0))
        (View.ld bl (Rect.unit ![0, 0] ![1, 512] inb_S1x512_S1x512_0_0)))
      (View.ld ya (Rect.unit ![0, 0] ![512, 512] inb_S512x512_S512x512_0_0))
      (View.ld wg (Rect.unit ![0, 0] ![1024, 1024] inb_S1024x2048_S1024x1024_0_0))
      (View.ld bg (Rect.unit ![0, 0] ![1, 1024] inb_S1x2048_S1x1024_0_0))
      (View.ld wa (Rect.unit ![0, 0] ![512, 1024] inb_S512x1024_S512x1024_0_0))
      (View.ld wg (Rect.unit ![0, 1024] ![1024, 1024] inb_S1024x2048_S1024x1024_0_1024))
      (View.ld bg (Rect.unit ![0, 1024] ![1, 1024] inb_S1x2048_S1x1024_0_1024))
      (View.ld ws (Rect.unit ![0, 0] ![512, 1024] inb_S512x1024_S512x1024_0_0))
      (View.ld wo (Rect.unit ![0, 0] ![1024, 1024] inb_S1024x1024_S1024x1024_0_0)) (ix2 r j)
    = stream (fun d => x (ix2 r d)) (fun d => g (ix2 0 d)) (fun k => ya (ix2 r k)) (fun k => yp (ix2 r k)) (fun d l => wg (ix2 d l)) (fun l => bg (ix2 0 l))
        (fun q k => wl (ix2 q k)) (fun k => bl (ix2 0 k)) wb (fun d j => wo (ix2 d j)) j := by
  unfold stream branches branchGate
  rw [ld_x, ld_gain, ld_y, ld_y, ld_y, ld_bl, ld_wg1, ld_wg2, ld_bg1, ld_bg2, ld_x, ld_x, ld_wo, pay3_at]
  simp only [pay1_at, pay2_at, ha, hs]
  rfl

theorem streamPay_at (t : Fin cfg0.N) (r : Fin 512) (j : Fin 1024) : streamPay m t (ix2 r j) = streamOf m (rowAt t r) j := by
  refine (streamVal_at (iblk m 0 0 t) (iblk m 0 1 t) (iblk m 0 2 t) (iblk m 0 3 t) (iblk m 0 4 t) (iblk m 0 5 t) (iblk m 0 6 t) (iblk m 0 7 t) (iblk m 0 8 t) (iblk m 0 9 t)
    (iblk m 0 10 t) (fun k d => arg m main_arg8 (ix2 k d)) (blk_wa m t) (blk_ws m t) r j).trans ?_
  unfold streamOf
  simp only [blk_x, blk_ya, blk_yp, blk_gain, blk_wg, blk_bg, blk_wl, blk_bl, blk_wo]

/-- Where a block's entry lies in the result. -/
def place (t : Fin cfg0.N) (y : S512x1152.Idx) : S32768x1152.Idx := ((cfg0.win 15).blk t).view.emb y

theorem place0 (t : Fin cfg0.N) (y : S512x1152.Idx) : (place t y 0 : ℕ) = t.val * 512 + y 0 := by
  unfold place
  blk_simp [index15 t]

theorem place1 (t : Fin cfg0.N) (y : S512x1152.Idx) : (place t y 1 : ℕ) = y 1 := by
  unfold place
  blk_simp [index15 t]

/-- The point that leaves a row, and the row's place in its block. -/
def pointOf (i : Fin 32768) : Fin cfg0.N := ⟨i.val / 512, show i.val / 512 < 64 by omega⟩
def inBlock (i : Fin 32768) : Fin 512 := ⟨i.val % 512, by omega⟩

theorem rowAt_pointOf (i : Fin 32768) : rowAt (pointOf i) (inBlock i) = i := Fin.ext (by simp only [rowAt, pointOf, inBlock]; omega)

/-- The result's array, on the stream's lanes. -/
theorem arr_out (i : Fin 32768) (j : Fin 1024) : (dats m 0 0).arrAt 15 cfg0.N (ix2 i (rowLane j)) = streamOf m i j := by
  have h := congrFun (Cert.Kernel2Ideal.Value.blocks15 m 0 (pointOf i) (flush15 _)) (ix2 (inBlock i) (rowLane j))
  have e : place (pointOf i) (ix2 (inBlock i) (rowLane j)) = ix2 i (rowLane j) := by
    funext a
    refine Fin.ext ?_
    match a with
    | ⟨0, _⟩ => exact (place0 _ _).trans (by simp only [pointOf, inBlock, ix2]; show i.val / 512 * 512 + i.val % 512 = i.val; omega)
    | ⟨1, _⟩ => exact place1 _ _
  have h1 : (dats m 0 0).arrAt 15 cfg0.N (place (pointOf i) (ix2 (inBlock i) (rowLane j))) = (outsAt0 m (0 : Dev nD) (pointOf i).val (pointOf i).isLt).1 (ix2 (inBlock i) (rowLane j)) := by
    refine Eq.trans ?_ (h.trans ?_)
    · rfl
    · rw [Cert.Kernel2Ideal.Value.flushed15]; rfl
  rw [e] at h1
  rw [h1, point, streamPay_at, rowAt_pointOf]

end Cert.Kernel2Ideal.Moe

end
-- ==== Proof.MergeRef.lean ====
module

public import proofs.«01_k».proof.Proof.Gen.Reference2Ideal.Read
public import proofs.«01_k».proof.Proof.MergeMath
public import proofs.«01_k».proof.Proof.Layer
public import Idealize.ShloMosaic.Lib.Pointwise
public import Idealize.ShloMosaic.Lib.Pipeline.ValueKit

/-! The merge's reference, entry by entry. -/

@[expose] public section

noncomputable section

namespace Cert.Reference2Ideal.Moe

open Cert.Moe Cert.Reference2Ideal.Read
open Idealize.ShloMosaic

variable (x0 : Vec Ideal S32768x1024 .f32) (x1 x2 : Vec Ideal S32768x512 .bf16) (x3 : Vec Ideal S1024 .f32) (x4 : Vec Ideal S1024x2048 .f32)
  (x5 : Vec Ideal S2048 .f32) (x6 : Vec Ideal S512x512 .f32) (x7 : Vec Ideal S512 .f32) (x8 x9 : Vec Ideal S1024x1024 .f32)

theorem normed_at (i : Fin 32768) (d : Fin 1024) :
    val_main_v12 (F := Ideal) x0 x3 (ix2 i d) = normed (fun d => x0 (ix2 i d)) (fun d => x3 (ix1 d)) d := by
  unfold normed
  pointwise [val_main_v12, val_main_v11, val_main_v10, val_main_v9, val_main_v8, val_main_v7, val_main_v6, val_main_v5, val_main_v4, val_main_v3, val_main_v2, val_main_v1, val_main_v0,
    val_main_cst, val_main_cst_0, val_main_cst_1]

theorem gate_at (i : Fin 32768) (l : Fin 2048) :
    val_main_v22 (F := Ideal) x0 x3 x4 x5 (ix2 i l)
      = branchGate (normed (fun d => x0 (ix2 i d)) (fun d => x3 (ix1 d))) (fun d l => x4 (ix2 d l)) (fun l => x5 (ix1 l)) l := by
  unfold branchGate
  pointwise [val_main_v22, val_main_v21, val_main_v20, val_main_v19, val_main_v18, val_main_v17, val_main_v16, val_main_v15, val_main_v14, val_main_v13, val_main_cst_2, val_main_cst_3, normed_at]
  rfl

theorem gelu_at (i : Fin 32768) (k : Fin 512) : val_main_v36 (F := Ideal) x2 (ix2 i k) = gelu (x2 (ix2 i k)) := by
  unfold gelu
  pointwise [val_main_v36, val_main_v35, val_main_v34, val_main_v33, val_main_v32, val_main_v31, val_main_v30, val_main_v29, val_main_v28, val_main_v27, val_main_v26, val_main_v25, val_main_v24, val_main_v23,
    val_main_cst_4, val_main_cst_5, val_main_cst_6, val_main_cst_7]
  rw [mul_comm (x2 (ix2 i k) * x2 (ix2 i k)) (x2 (ix2 i k))]

theorem glued_at (i : Fin 32768) (k : Fin 512) :
    val_main_v47 (F := Ideal) x2 x6 x7 (ix2 i k) = glued (fun k => x2 (ix2 i k)) (fun q k => x6 (ix2 q k)) (fun k => x7 (ix1 k)) k := by
  unfold glued
  pointwise [val_main_v47, val_main_v46, val_main_v45, val_main_v44, val_main_v43, val_main_v42, val_main_v41, val_main_v40, val_main_v39, val_main_v38, val_main_v37, val_main_cst_8, val_main_cst_9, gelu_at]
  rfl

theorem branches_at (i : Fin 32768) (d : Fin 1024) :
    val_main_v57 (F := Ideal) x0 x1 x2 x3 x4 x5 x6 x7 x8 (ix2 i d)
      = branches (fun d => x0 (ix2 i d)) (fun d => x3 (ix1 d)) (fun k => x1 (ix2 i k)) (fun k => x2 (ix2 i k)) (fun d l => x4 (ix2 d l)) (fun l => x5 (ix1 l))
          (fun q k => x6 (ix2 q k)) (fun k => x7 (ix1 k)) (fun k d => x8 (ix2 k d)) d := by
  unfold branches
  pointwise [val_main_v57, val_main_v56, val_main_v55, val_main_v54, val_main_v53, val_main_v52, val_main_v51, val_main_v50, val_main_v49, val_main_v48, gate_at, glued_at]
  rfl

/-- The reference's stream, on every lane of every row. -/
theorem stream_at (i : Fin 32768) (j : Fin 1024) :
    val_main_v59 (F := Ideal) x0 x1 x2 x3 x4 x5 x6 x7 x8 x9 (ix2 i j)
      = stream (fun d => x0 (ix2 i d)) (fun d => x3 (ix1 d)) (fun k => x1 (ix2 i k)) (fun k => x2 (ix2 i k)) (fun d l => x4 (ix2 d l)) (fun l => x5 (ix1 l))
          (fun q k => x6 (ix2 q k)) (fun k => x7 (ix1 k)) (fun k d => x8 (ix2 k d)) (fun d j => x9 (ix2 d j)) j := by
  unfold stream
  pointwise [val_main_v59, val_main_v58, branches_at]

end Cert.Reference2Ideal.Moe

end
-- ==== Proof.MergeAssembly.lean ====
module

public import proofs.«01_k».proof.Defs
public import proofs.«01_k».proof.Proof.MergeBlocks
public import proofs.«01_k».proof.Proof.MergeRef
public import proofs.«01_k».proof.Proof.Gen.Kernel2.Frame
public import proofs.«01_k».proof.Proof.Gen.On_stream_lanes
public import Idealize.ShloMosaic.Lib.KernelVsHost
public import Idealize.ShloMosaic.Lib.Quiescent

/-! The claims about the merge, each from the run it is about. -/

@[expose] public section

noncomputable section

namespace Cert.Merge

open Idealize.ShloMosaic Idealize.SL.Sem Cert.Moe

theorem frame_kernel : Cert.quiescent_Kernel2 := fun m g _ => Cert.Kernel2.Gen.frame m g

theorem frame_ideal : Cert.quiescent_Kernel2Ideal := fun m g _ => Cert.Kernel2Ideal.Gen.frame m g

theorem frame_reference : Cert.quiescent_Reference2Ideal := fun m g _ =>
  (θ_run Cert.Reference2Ideal.defs _ _).mono (fun r h => ⟨fun c => (h c).2, sem_eq_zero_of_no_sems (by decide) r.2⟩) (Cert.Reference2Ideal.Value.run m g)

section Mask
open Cert.On_stream_lanes

/-- The compared lanes are the stream's. -/
theorem lane_of (x0 : FVec Ideal S32768x1024 .f32) (x1 x2 : FVec Ideal S32768x512 .bf16) (x3 : FVec Ideal S1024 .f32) (x4 : FVec Ideal S1024x2048 .f32) (x5 : FVec Ideal S2048 .f32)
    (x6 : FVec Ideal S512x512 .f32) (x7 : FVec Ideal S512 .f32) (x8 x9 : FVec Ideal S1024x1024 .f32) (x10 : FVec Ideal S1024 .f32) (x11 : FVec Ideal S1024x4 .f32) (x12 : FVec Ideal S4 .f32)
    (x13 : FVec Ideal S1024x16 .f32) (x14 : FVec Ideal S16 .f32) (i : S32768x1152.Idx)
    (h : Cert.On_stream_lanes.fn (F := Ideal) x0 x1 x2 x3 x4 x5 x6 x7 x8 x9 x10 x11 x12 x13 x14 i = 1#1) : ∃ (r : Fin 32768) (j : Fin 1024), i = ix2 r (rowLane j) := by
  have h : IntOp.cmpi .slt (BitVec.ofNat 32 (i 1).val) 1024#32 = 1#1 := h
  have hl : (i 1).val < 1152 := (i 1).isLt
  have h1 : (i 1).val < 1024 := by
    have := IntOp.cmpi_slt.1 h
    rw [toInt_ofNat_of_lt (by omega)] at this
    have e : (1024#32 : BitVec 32).toInt = 1024 := by decide
    omega
  exact ⟨i 0, ⟨(i 1).val, h1⟩, funext fun a => by
    match a with
    | ⟨0, _⟩ => rfl
    | ⟨1, _⟩ => rfl⟩

end Mask

section Ref
open Cert.Reference2Ideal Cert.Reference2Ideal.Read

variable (x0 : Vec Ideal S32768x1024 .f32) (x1 x2 : Vec Ideal S32768x512 .bf16) (x3 : Vec Ideal S1024 .f32) (x4 : Vec Ideal S1024x2048 .f32)
  (x5 : Vec Ideal S2048 .f32) (x6 : Vec Ideal S512x512 .f32) (x7 : Vec Ideal S512 .f32) (x8 x9 : Vec Ideal S1024x1024 .f32)

theorem padded_at (i : Fin 32768) (j : Fin 1024) :
    val_main_v60 (F := Ideal) x0 x1 x2 x3 x4 x5 x6 x7 x8 x9 (ix2 i (rowLane j))
      = stream (fun d => x0 (ix2 i d)) (fun d => x3 (ix1 d)) (fun k => x1 (ix2 i k)) (fun k => x2 (ix2 i k)) (fun d l => x4 (ix2 d l)) (fun l => x5 (ix1 l))
          (fun q k => x6 (ix2 q k)) (fun k => x7 (ix1 k)) (fun k d => x8 (ix2 k d)) (fun d j => x9 (ix2 d j)) j := by
  unfold val_main_v60
  refine (pad_apply_of_inside _ _ _ _ _ _ _ _ (ix2 i j) (fun a => ?_)).trans (Cert.Reference2Ideal.Moe.stream_at x0 x1 x2 x3 x4 x5 x6 x7 x8 x9 i j)
  match a with
  | ⟨0, _⟩ => simp [ix2]
  | ⟨1, _⟩ => simp [ix2, rowLane]

end Ref

theorem value : Cert.algebraic_Kernel2Ideal_Reference2Ideal_on_stream_lanes := fun m g m' g' hp hm => by
  refine ⟨fun c => (Cert.Kernel2Ideal.Gen.dats m 0 c).arrAt 15 Cert.Kernel2Ideal.cfg0.N, ?_, ?_⟩
  · refine (θ_run Cert.Kernel2Ideal.defs _ _).mono (fun r h c => ?_) (Cert.Kernel2Ideal.Value.run_blocks m g)
    exact ⟨fun i _ => congrFun (h c).1 i, (h c).2.2⟩
  · refine (θ_run Cert.Reference2Ideal.defs _ _).mono (fun r h c => ⟨fun i hi => ?_, (h c).2⟩) (Cert.Reference2Ideal.Value.run m' g')
    obtain rfl : c = 0 := Subsingleton.elim _ _
    obtain ⟨h0, h1, h2, h3, h4, h5, h6, h7, h8, h9, h10, h11, h12, h13, h14⟩ := hm 0
    obtain ⟨r', j, rfl⟩ := lane_of _ _ _ _ _ _ _ _ _ _ _ _ _ _ _ i hi
    refine (congrFun ((h 0).1.trans (Cert.Reference2Ideal.Read.val_main_v60_eq m' 0)) _).trans ?_
    refine (padded_at _ _ _ _ _ _ _ _ _ _ r' j).trans (Eq.trans ?_ (Cert.Kernel2Ideal.Moe.arr_out m r' j).symm)
    unfold Cert.Kernel2Ideal.Moe.streamOf
    rw [h0, h1, h2, h3, h4, h5, h6, h7, h8, h9]

end Cert.Merge

end
-- ==== Proof.ProjMath.lean ====
module

public import proofs.«01_k».proof.Proof.Math

/-! The scan's input projection, row by row over the extended reals, and where its channels and tokens lie. -/

@[expose] public section

noncomputable section

namespace Cert.Moe

open Idealize.ShloMosaic

/-- One channel of a row's projection. -/
def projected (x gain : Fin 1024 → EReal) (w : Fin 1024 → Fin 512 → EReal) (l : Fin 512) : EReal := ∑ d, normed x gain d * w d l

/-- The channel that row `s` of group `g` holds, and the token's place in its run of sixteen. -/
def channel (g : Fin 32) (s : Fin 256) : Fin 512 := ⟨g.val * 16 + s.val % 16, by omega⟩

/-- The token that row `s` of column `c` holds: columns run over blocks of 256 positions, then the batch, then runs of sixteen. -/
def token (s : Fin 256) (c : Fin 2048) : Fin 32768 :=
  ⟨(c.val % 256 / 16) * 2048 + c.val / 256 * 256 + c.val % 16 * 16 + s.val / 16, by omega⟩

end Cert.Moe

end
-- ==== Proof.ProjPay.lean ====
module

public import proofs.«01_k».proof.Proof.Gen.Kernel3Ideal.Skeleton
public import proofs.«01_k».proof.Proof.ProjMath
public import Idealize.ShloMosaic.Lib.Pointwise
public import Idealize.ShloMosaic.Lib.Pipeline.ValueKit

/-! What the projection's body computes of its blocks, entry by entry. -/

@[expose] public section

noncomputable section

namespace Cert.Kernel3Ideal.Moe

open Cert.Moe Cert.Kernel3Ideal.Gen
open Idealize.ShloMosaic

theorem pay2_at (x : Vec Ideal S8x256x1024 .f32) (g : Vec Ideal S1x1024 .f32) (w : Vec Ideal S1024x512 .bf16) (r : Fin 2048) (l : Fin 512) :
    k0_pay2 (F := Ideal) x g w (ix2 r l)
      = projected (fun d => x (ix3 (⟨r.val / 256, by omega⟩ : Fin 8) (⟨r.val % 256, by omega⟩ : Fin 256) d)) (fun d => g (ix2 0 d)) (fun d l => w (ix2 d l)) l := by
  unfold projected normed
  pointwise [k0_pay2]

theorem pay3_at (x : Vec Ideal S8x256x1024 .f32) (g : Vec Ideal S1x1024 .f32) (w : Vec Ideal S1024x512 .bf16) (z : Fin 1) (r : Fin 2048) (l : Fin 128) :
    k0_pay3 (F := Ideal) x g w (ix3 z r l) = k0_pay2 (F := Ideal) x g w (ix2 r (⟨l.val, by omega⟩ : Fin 512)) := by
  pointwise [k0_pay3]
theorem pay4_at (x : Vec Ideal S8x256x1024 .f32) (g : Vec Ideal S1x1024 .f32) (w : Vec Ideal S1024x512 .bf16) (z : Fin 1) (r : Fin 2048) (l : Fin 128) :
    k0_pay4 (F := Ideal) x g w (ix3 z r l) = k0_pay2 (F := Ideal) x g w (ix2 r (⟨128 + l.val, by omega⟩ : Fin 512)) := by
  pointwise [k0_pay4]
theorem pay5_at (x : Vec Ideal S8x256x1024 .f32) (g : Vec Ideal S1x1024 .f32) (w : Vec Ideal S1024x512 .bf16) (z : Fin 1) (r : Fin 2048) (l : Fin 128) :
    k0_pay5 (F := Ideal) x g w (ix3 z r l) = k0_pay2 (F := Ideal) x g w (ix2 r (⟨256 + l.val, by omega⟩ : Fin 512)) := by
  pointwise [k0_pay5]
theorem pay7_at (x : Vec Ideal S8x256x1024 .f32) (g : Vec Ideal S1x1024 .f32) (w : Vec Ideal S1024x512 .bf16) (z : Fin 1) (r : Fin 2048) (l : Fin 128) :
    k0_pay7 (F := Ideal) (k0_pay6 (F := Ideal) x g w) (ix3 z r l) = k0_pay2 (F := Ideal) x g w (ix2 r (⟨384 + l.val, by omega⟩ : Fin 512)) := by
  pointwise [k0_pay7, k0_pay6]

/-- Sixteen channels of a run's tokens, turned on their side. -/
def turned (X : Vec Ideal S1x128x128 .f32) (o : ℕ) (h : S128x128.Slices ![o, 0] S16x128) : FVec Ideal S1x16x128 .bf16 :=
  shapeCast S1x16x128 (extractStridedSlice S16x128 ![o, 0]
    (truncf .bf16 (transpose S128x128 [1, 0] (shapeCast S128x128 X shapeCasts_S1x128x128_S128x128) transposes_S128x128_p1_0_S128x128) bitsLt_bf16_f32 : FVec Ideal S128x128 .bf16) h)
    shapeCasts_S16x128_S1x16x128

theorem turned_at (X : Vec Ideal S1x128x128 .f32) (o : ℕ) (h : S128x128.Slices ![o, 0] S16x128) (ho : o + 16 ≤ 128) (z : Fin 1) (a : Fin 16) (b : Fin 128) :
    turned X o h (ix3 z a b) = X (ix3 0 b (⟨o + a.val, by omega⟩ : Fin 128)) := by
  pointwise [turned]

end Cert.Kernel3Ideal.Moe

end
-- ==== Proof.ProjPoint.lean ====
module

public import proofs.«01_k».proof.Proof.Gen.Kernel3Ideal.Value
public import proofs.«01_k».proof.Proof.ProjPay

/-! What a point of the projection leaves in its block of the result. -/

@[expose] public section

set_option maxRecDepth 16384

noncomputable section

namespace Cert.Kernel3Ideal.Moe

open Cert.Kernel3Ideal.Gen Cert.Moe
open Idealize.ShloMosaic Idealize.ShloMosaic.TcCoe Idealize.ShloMosaic.Tactic
open Idealize.ShloMosaic.Pipeline (Dat Cfg Window)

variable (m : (ℓ : Loc nD τ sig) → Buf (Elt Ideal) ℓ)

section Pieces
variable (x : Vec Ideal S8x256x1024 .f32) (g : Vec Ideal S1x1024 .f32) (w : Vec Ideal S1024x512 .bf16)

/-- The projection's four slices of channels, as the body stages them. -/
def staged : List (View.Piece (Elt Ideal) S4x2048x128 .f32) :=
  [⟨Rect.unit ![3, 0, 0] S1x2048x128.size inb_S4x2048x128_S1x2048x128_3_0_0, k0_pay7 (k0_pay6 x g w)⟩,
   ⟨Rect.unit ![2, 0, 0] S1x2048x128.size inb_S4x2048x128_S1x2048x128_2_0_0, k0_pay5 x g w⟩,
   ⟨Rect.unit ![1, 0, 0] S1x2048x128.size inb_S4x2048x128_S1x2048x128_1_0_0, k0_pay4 x g w⟩,
   ⟨Rect.unit ![0, 0, 0] S1x2048x128.size inb_S4x2048x128_S1x2048x128_0_0_0, k0_pay3 x g w⟩]

/-- What they make up: the projection by slice, row and channel of the slice. -/
def stagedAt : Vec Ideal S4x2048x128 .f32 := fun i =>
  k0_pay2 x g w (ix2 (⟨(i 1).val, (i 1).isLt⟩ : Fin 2048) (⟨128 * (i 0).val + (i 2).val, by have h0 : (i 0).val < 4 := (i 0).isLt; have h2 : (i 2).val < 128 := (i 2).isLt; omega⟩ : Fin 512))

theorem stage_emb (q : Fin 4) (inb : ∀ a, (![q.val, 0, 0] : Fin 3 → ℕ) a + S1x2048x128.size a ≤ S4x2048x128.size a) (z : Fin 1) (r : Fin 2048) (l : Fin 128) :
    (Rect.unit (s := S4x2048x128) ![q.val, 0, 0] S1x2048x128.size inb).emb (ix3 z r l) = ix3 q r l :=
  Rect.emb_eq_of_coords _ _ _ (fun a => by
    match a with
    | ⟨0, _⟩ => simp [ix3]
    | ⟨1, _⟩ => simp [ix3]
    | ⟨2, _⟩ => simp [ix3])

theorem staged_pieces : ∀ p ∈ staged x g w, ∀ y : p.1.shape.Idx, p.2 y = stagedAt x g w (p.1.emb y) := by
  unfold staged
  refine List.forall_mem_cons.2 ⟨fun y => ?_, List.forall_mem_cons.2 ⟨fun y => ?_, List.forall_mem_cons.2 ⟨fun y => ?_, List.forall_mem_cons.2 ⟨fun y => ?_, fun _ h => absurd h List.not_mem_nil⟩⟩⟩⟩
  all_goals
    obtain ⟨z, r, l, rfl⟩ : ∃ (z : Fin 1) (r : Fin 2048) (l : Fin 128), y = ix3 z r l := ⟨y 0, y 1, y 2, funext fun a => by
      match a with
      | ⟨0, _⟩ => rfl
      | ⟨1, _⟩ => rfl
      | ⟨2, _⟩ => rfl⟩
  · refine Eq.trans ?_ (congrArg (stagedAt x g w) (stage_emb 3 inb_S4x2048x128_S1x2048x128_3_0_0 z r l)).symm
    refine (pay7_at x g w z r l).trans (congrArg (k0_pay2 x g w) (congrArg₂ ix2 (Fin.ext ?_) (Fin.ext ?_)))
    all_goals simp [ix3]
  · refine Eq.trans ?_ (congrArg (stagedAt x g w) (stage_emb 2 inb_S4x2048x128_S1x2048x128_2_0_0 z r l)).symm
    refine (pay5_at x g w z r l).trans (congrArg (k0_pay2 x g w) (congrArg₂ ix2 (Fin.ext ?_) (Fin.ext ?_)))
    all_goals simp [ix3]
  · refine Eq.trans ?_ (congrArg (stagedAt x g w) (stage_emb 1 inb_S4x2048x128_S1x2048x128_1_0_0 z r l)).symm
    refine (pay4_at x g w z r l).trans (congrArg (k0_pay2 x g w) (congrArg₂ ix2 (Fin.ext ?_) (Fin.ext ?_)))
    all_goals simp [ix3]
  · refine Eq.trans ?_ (congrArg (stagedAt x g w) (stage_emb 0 inb_S4x2048x128_S1x2048x128_0_0_0 z r l)).symm
    refine (pay3_at x g w z r l).trans (congrArg (k0_pay2 x g w) (congrArg₂ ix2 (Fin.ext ?_) (Fin.ext ?_)))
    all_goals simp [ix3]

theorem staged_cover (y : S4x2048x128.Idx) : ∃ p ∈ staged x g w, y ∈ p.1.set :=
  View.cover_of_tiledL (staged x g w) S1x2048x128.size (by sl_kernel_rfl) y

theorem staged_load (v : View sig .tc .vmem S4x2048x128 .f32) (B : LoadRect S4x2048x128) (j : B.shape.Idx) :
    v.readCov (staged x g w) B j = stagedAt x g w (B.idx j) :=
  View.read_writes_apply_of_pieces v v.junk (stagedAt x g w) (staged x g w) (staged_pieces x g w) (B.idx j) (staged_cover x g w _)

/-- The block a point leaves: a group's channels by place in the run, over the tokens. -/
def block : Vec Ideal S32x256x128 .bf16 := fun i =>
  k0_pay2 x g w (ix2 (⟨16 * (i 2).val + (i 1).val / 16, by have h1 : (i 1).val < 256 := (i 1).isLt; have h2 : (i 2).val < 128 := (i 2).isLt; omega⟩ : Fin 2048)
    (⟨16 * (i 0).val + (i 1).val % 16, by have h0 : (i 0).val < 32 := (i 0).isLt; omega⟩ : Fin 512))

theorem piece (G T q t o : ℕ) (inb : ∀ a, (![G, T, 0] : Fin 3 → ℕ) a + (![1, 16, 128] : Fin 3 → ℕ) a ≤ S32x256x128.size a)
    (inb' : ∀ a, S1x128x128.size a = 0 ∨ (![q, t, 0] : Fin 3 → ℕ) a + (![1, 16, 1] : Fin 3 → ℕ) a * (S1x128x128.size a - 1) < S4x2048x128.size a)
    (h : S128x128.Slices ![o, 0] S16x128) (hG : 16 * G = 128 * q + o) (hT : T = 16 * t) (ho : o + 16 ≤ 128) (y : (Rect.unit (s := S32x256x128) ![G, T, 0] ![1, 16, 128] inb).shape.Idx) :
    turned (scM0_0.view.readCov (staged x g w) (⟨![q, t, 0], S1x128x128.size, ![1, 16, 1], inb'⟩ : LoadRect S4x2048x128)) o h y
      = block x g w ((Rect.unit (s := S32x256x128) ![G, T, 0] ![1, 16, 128] inb).emb y) := by
  obtain ⟨z, a, b, rfl⟩ : ∃ (z : Fin 1) (a : Fin 16) (b : Fin 128), y = ix3 z a b := ⟨y 0, y 1, y 2, funext fun a => by
      match a with
      | ⟨0, _⟩ => rfl
      | ⟨1, _⟩ => rfl
      | ⟨2, _⟩ => rfl⟩
  refine (turned_at _ o h ho z a b).trans ?_
  have hG32 : G + 1 ≤ 32 := inb 0
  have hT256 : T + 16 ≤ 256 := inb 1
  have hl : (⟨![q, t, 0], S1x128x128.size, ![1, 16, 1], inb'⟩ : LoadRect S4x2048x128).idx (ix3 (0 : Fin 1) b (⟨o + a.val, by omega⟩ : Fin 128))
      = ix3 (⟨q, by omega⟩ : Fin 4) (⟨t + 16 * b.val, by omega⟩ : Fin 2048) (⟨o + a.val, by omega⟩ : Fin 128) := funext fun d => Fin.ext (by
    match d with
    | ⟨0, _⟩ => simp [LoadRect.idx, ix3]
    | ⟨1, _⟩ => simp [LoadRect.idx, ix3]
    | ⟨2, _⟩ => simp [LoadRect.idx, ix3])
  have hr : (Rect.unit (s := S32x256x128) ![G, T, 0] ![1, 16, 128] inb).emb (ix3 z a b) = ix3 (⟨G, by omega⟩ : Fin 32) (⟨T + a.val, by omega⟩ : Fin 256) b :=
    Rect.emb_eq_of_coords _ _ _ (fun d => by
      match d with
      | ⟨0, _⟩ => simp [ix3]
      | ⟨1, _⟩ => simp [ix3]
      | ⟨2, _⟩ => simp [ix3])
  rw [staged_load, hl, hr]
  refine congrArg (k0_pay2 x g w) (congrArg₂ ix2 (Fin.ext ?_) (Fin.ext ?_))
  all_goals simp only [ix3]
  · show t + 16 * b.val = 16 * b.val + (T + a.val) / 16
    omega
  · show 128 * q + (o + a.val) = 16 * G + (T + a.val) % 16
    omega

end Pieces

theorem ld_x {e : EltTy} (X : Vec Ideal S8x256x1024 e) : View.ld X (Rect.unit ![0, 0, 0] ![8, 256, 1024] inb_S8x256x1024_S8x256x1024_0_0_0) = X :=
  funext fun i => congrArg X (Rect.emb_eq_of_coords _ _ _ fun a => by match a with | ⟨0, _⟩ => simp [ix3] | ⟨1, _⟩ => simp [ix3] | ⟨2, _⟩ => simp [ix3])
theorem ld_g {e : EltTy} (X : Vec Ideal S1x1024 e) : View.ld X (Rect.unit ![0, 0] ![1, 1024] inb_S1x1024_S1x1024_0_0) = X :=
  funext fun i => congrArg X (Rect.emb_eq_of_coords _ _ _ fun a => by match a with | ⟨0, _⟩ => simp [ix2] | ⟨1, _⟩ => simp [ix2])
theorem ld_w {e : EltTy} (X : Vec Ideal S1024x512 e) : View.ld X (Rect.unit ![0, 0] ![1024, 512] inb_S1024x512_S1024x512_0_0) = X :=
  funext fun i => congrArg X (Rect.emb_eq_of_coords _ _ _ fun a => by match a with | ⟨0, _⟩ => simp [ix2] | ⟨1, _⟩ => simp [ix2])

set_option maxHeartbeats 4000000 in
theorem point (t : Fin cfg0.N) (i : S32x256x128.Idx) :
    outsAt0 m (0 : Dev nD) t i
      = block (View.ld (iblk m 0 0 t) (Rect.unit ![0, 0, 0] ![8, 256, 1024] inb_S8x256x1024_S8x256x1024_0_0_0)) (View.ld (iblk m 0 1 t) (Rect.unit ![0, 0] ![1, 1024] inb_S1x1024_S1x1024_0_0))
          (View.ld (iblk m 0 2 t) (Rect.unit ![0, 0] ![1024, 512] inb_S1024x512_S1024x512_0_0)) i := by
  unfold outsAt0 out0_A_3
  refine View.read_writes_apply_of_pieces _ _ (block _ _ _) _ ?_ _ (cover0_A_3 _ _ _ _ _ _ _ _ _ _ _ _ _ _ _ _)
  unfold kernelRun0_A
  dsimp only
  sl_unfold_words
  simp only [View.readAt_eq_ld, (hs0_0 t).read_unread, (hs0_1 t).read_unread, (hs0_2 t).read_unread]
  generalize View.ld (iblk m 0 0 t) _ = x
  generalize View.ld (iblk m 0 1 t) _ = g
  generalize View.ld (iblk m 0 2 t) _ = w
  repeat refine List.forall_mem_cons.2 ⟨piece x g w _ _ _ _ _ (by decide) (by decide) (by decide) (by decide) (by decide) (by decide), ?_⟩
  exact fun _ h => absurd h List.not_mem_nil

end Cert.Kernel3Ideal.Moe

end
-- ==== Proof.ProjBlocks.lean ====
module

public import proofs.«01_k».proof.Proof.ProjPoint

/-! The projection's blocks as entries of the arguments, and its result. -/

@[expose] public section

set_option maxRecDepth 16384

noncomputable section

namespace Cert.Kernel3Ideal.Moe

open Cert.Kernel3Ideal.Gen Cert.Moe
open Idealize.ShloMosaic Idealize.ShloMosaic.TcCoe Idealize.ShloMosaic.Tactic
open Idealize.ShloMosaic.Pipeline (Dat Cfg Window)

variable (m : (ℓ : Loc nD τ sig) → Buf (Elt Ideal) ℓ)

abbrev arg (b : Ref sig .tc) : Buf (Elt Ideal) (((0 : Dev nD).tc : Thread nD τ).loc b) := m (((0 : Dev nD).tc : Thread nD τ).loc b)

theorem V_v0 (b : Fin 16) (k : Fin 2048) (d : Fin 1024) : V m 0 main_v0 (ix3 b k d) = arg m main_arg0 (ix2 (⟨b.val * 2048 + k.val, by omega⟩ : Fin 32768) d) := by
  simp only [V, hostOps0, List.flatten_cons, List.flatten_nil, List.append_nil, List.cons_append, List.nil_append]
  after_results
  pointwise []
theorem V_v1 (d : Fin 1024) : V m 0 main_v1 (ix2 0 d) = arg m main_arg1 (ix1 d) := by
  simp only [V, hostOps0, List.flatten_cons, List.flatten_nil, List.append_nil, List.cons_append, List.nil_append]
  after_results
  pointwise []
theorem V_v2 : V m 0 main_v2 = arg m main_arg2 := by
  simp only [V, hostOps0, List.flatten_cons, List.flatten_nil, List.append_nil, List.cons_append, List.nil_append]
  after_results
  try rfl

theorem index0 : ∀ t : Fin cfg0.N, win0_0.index t = ![t.val % 2, t.val / 2, 0] := (by decide +kernel : ∀ t : Fin grid0.N, win0_0.index t = ![t.val % 2, t.val / 2, 0])
theorem index3 : ∀ t : Fin cfg0.N, win0_3.index t = ![0, 0, t.val] := (by decide +kernel : ∀ t : Fin grid0.N, win0_3.index t = ![0, 0, t.val])
theorem flush3 : ∀ t : Fin cfg0.N, (cfg0.win 3).flush t = true := (by decide +kernel : ∀ t : Fin grid0.N, win0_3.flush t = true)

theorem lt16 (t : Fin cfg0.N) : t.val < 16 := t.isLt

theorem blk_x (t : Fin cfg0.N) (b : Fin 8) (k : Fin 256) (d : Fin 1024) :
    iblk m 0 0 t (ix3 b k d) = arg m main_arg0 (ix2 (⟨(t.val % 2 * 8 + b.val) * 2048 + (t.val / 2 * 256 + k.val), by have := lt16 t; omega⟩ : Fin 32768) d) := by
  refine Eq.trans ?_ (V_v0 m ⟨t.val % 2 * 8 + b.val, by omega⟩ ⟨t.val / 2 * 256 + k.val, by have := lt16 t; omega⟩ d)
  blk_ext [iblk, V, index0 t]

theorem blk_gain (t : Fin cfg0.N) (d : Fin 1024) : iblk m 0 1 t (ix2 0 d) = arg m main_arg1 (ix1 d) := by
  rw [← V_v1]
  blk_ext [iblk, V, (show win0_1.index t = ![0, 0] from rfl)]

theorem blk_w (t : Fin cfg0.N) (d : Fin 1024) (l : Fin 512) : iblk m 0 2 t (ix2 d l) = arg m main_arg2 (ix2 d l) := by
  rw [← V_v2]
  blk_ext [iblk, V, (show win0_2.index t = ![0, 0] from rfl)]

/-- The projection of the launch's arguments. -/
def projectedOf (i : Fin 32768) (l : Fin 512) : EReal :=
  projected (fun d => arg m main_arg0 (ix2 i d)) (fun d => arg m main_arg1 (ix1 d)) (fun d l => arg m main_arg2 (ix2 d l)) l

theorem block_at (x : Vec Ideal S8x256x1024 .f32) (g : Vec Ideal S1x1024 .f32) (w : Vec Ideal S1024x512 .bf16) (q : Fin 32) (s : Fin 256) (p : Fin 128) :
    block (View.ld x (Rect.unit ![0, 0, 0] ![8, 256, 1024] inb_S8x256x1024_S8x256x1024_0_0_0)) (View.ld g (Rect.unit ![0, 0] ![1, 1024] inb_S1x1024_S1x1024_0_0))
        (View.ld w (Rect.unit ![0, 0] ![1024, 512] inb_S1024x512_S1024x512_0_0)) (ix3 q s p)
      = projected (fun d => x (ix3 (⟨p.val / 16, by omega⟩ : Fin 8) (⟨p.val % 16 * 16 + s.val / 16, by omega⟩ : Fin 256) d)) (fun d => g (ix2 0 d)) (fun d l => w (ix2 d l)) (channel q s) := by
  rw [ld_x, ld_g, ld_w]
  unfold block
  refine (pay2_at x g w _ _).trans ?_
  have e1 : (⟨(16 * p.val + s.val / 16) / 256, by omega⟩ : Fin 8) = ⟨p.val / 16, by omega⟩ := Fin.ext (by show (16 * p.val + s.val / 16) / 256 = p.val / 16; omega)
  have e2 : (⟨(16 * p.val + s.val / 16) % 256, by omega⟩ : Fin 256) = ⟨p.val % 16 * 16 + s.val / 16, by omega⟩ :=
    Fin.ext (by show (16 * p.val + s.val / 16) % 256 = p.val % 16 * 16 + s.val / 16; omega)
  have e3 : (⟨16 * q.val + s.val % 16, by omega⟩ : Fin 512) = channel q s := Fin.ext (by simp only [channel]; omega)
  rw [← e1, ← e2, ← e3]
  rfl

/-- Where a block's entry lies in the result. -/
def place (t : Fin cfg0.N) (y : S32x256x128.Idx) : S32x256x2048.Idx := ((cfg0.win 3).blk t).view.emb y

theorem place0 (t : Fin cfg0.N) (y : S32x256x128.Idx) : (place t y 0 : ℕ) = y 0 := by
  unfold place
  blk_simp [index3 t]
theorem place1 (t : Fin cfg0.N) (y : S32x256x128.Idx) : (place t y 1 : ℕ) = y 1 := by
  unfold place
  blk_simp [index3 t]
theorem place2 (t : Fin cfg0.N) (y : S32x256x128.Idx) : (place t y 2 : ℕ) = t.val * 128 + y 2 := by
  unfold place
  blk_simp [index3 t]

/-- The point that leaves a column, and the column's place in its block. -/
def pointOf (c : Fin 2048) : Fin cfg0.N := ⟨c.val / 128, show c.val / 128 < 16 by omega⟩
def inBlock (c : Fin 2048) : Fin 128 := ⟨c.val % 128, by omega⟩

/-- The result's array: each group's channels over the tokens. -/
theorem arr_out (g : Fin 32) (s : Fin 256) (c : Fin 2048) : (dats m 0 0).arrAt 3 cfg0.N (ix3 g s c) = projectedOf m (token s c) (channel g s) := by
  have h := congrFun (Cert.Kernel3Ideal.Value.blocks3 m 0 (pointOf c) (flush3 _)) (ix3 g s (inBlock c))
  have e : place (pointOf c) (ix3 g s (inBlock c)) = ix3 g s c := by
    funext a
    refine Fin.ext ?_
    match a with
    | ⟨0, _⟩ => exact place0 _ _
    | ⟨1, _⟩ => exact place1 _ _
    | ⟨2, _⟩ => exact (place2 _ _).trans (by simp only [pointOf, inBlock, ix3]; show c.val / 128 * 128 + c.val % 128 = c.val; omega)
  have h1 : (dats m 0 0).arrAt 3 cfg0.N (place (pointOf c) (ix3 g s (inBlock c))) = outsAt0 m (0 : Dev nD) (pointOf c) (ix3 g s (inBlock c)) := by
    refine Eq.trans ?_ (h.trans ?_)
    · rfl
    · rw [Cert.Kernel3Ideal.Value.flushed3]; rfl
  rw [e] at h1
  rw [h1, point]
  refine (block_at (iblk m 0 0 (pointOf c)) (iblk m 0 1 (pointOf c)) (iblk m 0 2 (pointOf c)) g s (inBlock c)).trans ?_
  unfold projectedOf
  simp only [blk_x, blk_gain, blk_w]
  have et : (⟨((pointOf c).val % 2 * 8 + (inBlock c).val / 16) * 2048 + ((pointOf c).val / 2 * 256 + ((inBlock c).val % 16 * 16 + s.val / 16)), by
      have := lt16 (pointOf c); have := (inBlock c).isLt; omega⟩ : Fin 32768) = token s c := Fin.ext (by
    simp only [pointOf, inBlock, token]
    omega)
  rw [← et]

end Cert.Kernel3Ideal.Moe

end
-- ==== Proof.ProjRef.lean ====
module

public import proofs.«01_k».proof.Proof.Gen.Reference3Ideal.Read
public import proofs.«01_k».proof.Proof.ProjMath
public import proofs.«01_k».proof.Proof.Layer
public import Idealize.ShloMosaic.Lib.Pointwise
public import Idealize.ShloMosaic.Lib.Pipeline.ValueKit

/-! The projection's reference, entry by entry. -/

@[expose] public section

noncomputable section

namespace Cert.Reference3Ideal.Moe

open Cert.Moe Cert.Reference3Ideal.Read
open Idealize.ShloMosaic

variable (x0 : Vec Ideal S32768x1024 .f32) (x1 : Vec Ideal S1024 .f32) (x2 : Vec Ideal S1024x512 .f32)

theorem normed_at (i : Fin 32768) (d : Fin 1024) :
    val_main_v12 (F := Ideal) x0 x1 (ix2 i d) = normed (fun d => x0 (ix2 i d)) (fun d => x1 (ix1 d)) d := by
  unfold normed
  pointwise [val_main_v12, val_main_v11, val_main_v10, val_main_v9, val_main_v8, val_main_v7, val_main_v6, val_main_v5, val_main_v4, val_main_v3, val_main_v2, val_main_v1, val_main_v0,
    val_main_cst, val_main_cst_0, val_main_cst_1]

theorem projected_at (i : Fin 32768) (l : Fin 512) :
    val_main_v13 (F := Ideal) x0 x1 x2 (ix2 i l) = projected (fun d => x0 (ix2 i d)) (fun d => x1 (ix1 d)) (fun d l => x2 (ix2 d l)) l := by
  unfold projected
  pointwise [val_main_v13, normed_at]

theorem laid_out_at (g : Fin 32) (s : Fin 256) (c : Fin 2048) :
    val_main_v17 (F := Ideal) x0 x1 x2 (ix3 g s c) = val_main_v13 (F := Ideal) x0 x1 x2 (ix2 (token s c) (channel g s)) := by
  unfold val_main_v17 val_main_v16 val_main_v15 val_main_v14
  pointwise []
  refine congrArg (val_main_v13 (F := Ideal) x0 x1 x2) ?_
  have e : (⟨c.val / 128 % 2 * 16384 + c.val / 16 % 8 * 2048 + c.val / 256 * 256 + c.val % 16 * 16 + s.val / 16, by omega⟩ : Fin 32768) = token s c :=
    Fin.ext (by simp only [token]; omega)
  exact congrArg₂ ix2 e rfl

end Cert.Reference3Ideal.Moe

end
-- ==== Proof.ProjAssembly.lean ====
module

public import proofs.«01_k».proof.Defs
public import proofs.«01_k».proof.Proof.ProjBlocks
public import proofs.«01_k».proof.Proof.ProjRef
public import proofs.«01_k».proof.Proof.Gen.Kernel3.Frame
public import Idealize.ShloMosaic.Lib.KernelVsHost
public import Idealize.ShloMosaic.Lib.Quiescent

/-! The claims about the scan's input projection, each from the run it is about. -/

@[expose] public section

noncomputable section

namespace Cert.Projection

open Idealize.ShloMosaic Idealize.SL.Sem Cert.Moe

theorem frame_kernel : Cert.quiescent_Kernel3 := fun m g _ => Cert.Kernel3.Gen.frame m g

theorem frame_ideal : Cert.quiescent_Kernel3Ideal := fun m g _ => Cert.Kernel3Ideal.Gen.frame m g

theorem frame_reference : Cert.quiescent_Reference3Ideal := fun m g _ =>
  (θ_run Cert.Reference3Ideal.defs _ _).mono (fun r h => ⟨fun c => (h c).2, sem_eq_zero_of_no_sems (by decide) r.2⟩) (Cert.Reference3Ideal.Value.run m g)

theorem value : Cert.algebraic_Kernel3Ideal_Reference3Ideal := fun m g m' g' hp hm => by
  refine ⟨fun c => (Cert.Kernel3Ideal.Gen.dats m 0 c).arrAt 3 Cert.Kernel3Ideal.cfg0.N, ?_, ?_⟩
  · exact Cert.Kernel3Ideal.Value.run_blocks m g
  · refine (θ_run Cert.Reference3Ideal.defs _ _).mono (fun r h c => ⟨?_, (h c).2⟩) (Cert.Reference3Ideal.Value.run m' g')
    obtain rfl : c = 0 := Subsingleton.elim _ _
    obtain ⟨h0, h1, h2⟩ := hm 0
    refine funext fun i => ?_
    obtain ⟨q, s, l, rfl⟩ : ∃ (q : Fin 32) (s : Fin 256) (l : Fin 2048), i = ix3 q s l := ⟨i 0, i 1, i 2, funext fun a => by
      match a with
      | ⟨0, _⟩ => rfl
      | ⟨1, _⟩ => rfl
      | ⟨2, _⟩ => rfl⟩
    refine (congrFun ((h 0).1.trans (Cert.Reference3Ideal.Read.val_main_v17_eq (F := Ideal) _ _ _)) _).trans ?_
    refine ((Cert.Reference3Ideal.Moe.laid_out_at _ _ _ q s l).trans (Cert.Reference3Ideal.Moe.projected_at _ _ _ _ _)).trans (Eq.trans ?_ (Cert.Kernel3Ideal.Moe.arr_out m q s l).symm)
    unfold Cert.Kernel3Ideal.Moe.projectedOf
    rw [h0, h1, h2]

end Cert.Projection

end
-- ==== Proof.OutPay.lean ====
module

public import proofs.«01_k».proof.Proof.Gen.Kernel4Ideal.Skeleton
public import Idealize.ShloMosaic.Lib.Pointwise
public import Idealize.ShloMosaic.Lib.Pipeline.ValueKit

/-! What the output's body computes of its block, entry by entry. -/

@[expose] public section

noncomputable section

namespace Cert.Kernel4Ideal.Moe

open Cert.Kernel4Ideal.Gen
open Idealize.ShloMosaic

section
variable (X0 X1 X2 X3 X4 X5 X6 X7 : Vec Ideal S1x16x128 .bf16)

/-- Eight groups' channels of one place in the run, side by side, with the tokens down. -/
def gathered : FVec Ideal S1x128x128 .f32 := k0_pay1 (F := Ideal) X0 X1 X2 X3 X4 X5 X6 X7

theorem gathered_at (f : Fin 128 → Fin 128 → EReal)
    (h0 : ∀ (a : Fin 16) (b : Fin 128), X0 (ix3 0 a b) = f ⟨0 + a.val, by omega⟩ b)
    (h1 : ∀ (a : Fin 16) (b : Fin 128), X1 (ix3 0 a b) = f ⟨16 + a.val, by omega⟩ b)
    (h2 : ∀ (a : Fin 16) (b : Fin 128), X2 (ix3 0 a b) = f ⟨32 + a.val, by omega⟩ b)
    (h3 : ∀ (a : Fin 16) (b : Fin 128), X3 (ix3 0 a b) = f ⟨48 + a.val, by omega⟩ b)
    (h4 : ∀ (a : Fin 16) (b : Fin 128), X4 (ix3 0 a b) = f ⟨64 + a.val, by omega⟩ b)
    (h5 : ∀ (a : Fin 16) (b : Fin 128), X5 (ix3 0 a b) = f ⟨80 + a.val, by omega⟩ b)
    (h6 : ∀ (a : Fin 16) (b : Fin 128), X6 (ix3 0 a b) = f ⟨96 + a.val, by omega⟩ b)
    (h7 : ∀ (a : Fin 16) (b : Fin 128), X7 (ix3 0 a b) = f ⟨112 + a.val, by omega⟩ b)
    (z : Fin 1) (b l : Fin 128) : gathered X0 X1 X2 X3 X4 X5 X6 X7 (ix3 z b l) = f l b := by
  pointwise [gathered, k0_pay1]
  by_cases c0 : l.val < 16
  · rw [dif_pos c0]
    exact (h0 _ _).trans (congrArg (f · b) (Fin.ext (by simp only []; omega)))
  rw [dif_neg c0]
  by_cases c1 : l.val - 16 < 16
  · rw [dif_pos c1]
    exact (h1 _ _).trans (congrArg (f · b) (Fin.ext (by simp only []; omega)))
  rw [dif_neg c1]
  by_cases c2 : l.val - 16 - 16 < 16
  · rw [dif_pos c2]
    exact (h2 _ _).trans (congrArg (f · b) (Fin.ext (by simp only []; omega)))
  rw [dif_neg c2]
  by_cases c3 : l.val - 16 - 16 - 16 < 16
  · rw [dif_pos c3]
    exact (h3 _ _).trans (congrArg (f · b) (Fin.ext (by simp only []; omega)))
  rw [dif_neg c3]
  by_cases c4 : l.val - 16 - 16 - 16 - 16 < 16
  · rw [dif_pos c4]
    exact (h4 _ _).trans (congrArg (f · b) (Fin.ext (by simp only []; omega)))
  rw [dif_neg c4]
  by_cases c5 : l.val - 16 - 16 - 16 - 16 - 16 < 16
  · rw [dif_pos c5]
    exact (h5 _ _).trans (congrArg (f · b) (Fin.ext (by simp only []; omega)))
  rw [dif_neg c5]
  by_cases c6 : l.val - 16 - 16 - 16 - 16 - 16 - 16 < 16
  · rw [dif_pos c6]
    exact (h6 _ _).trans (congrArg (f · b) (Fin.ext (by simp only []; omega)))
  rw [dif_neg c6]
  exact (h7 _ _).trans (congrArg (f · b) (Fin.ext (by simp only []; omega)))

end

theorem pay244_at (X : Vec Ideal S1x2048x128 .f32) (b : Fin 8) (k : Fin 256) (l : Fin 128) :
    k0_pay244 (F := Ideal) X (ix3 b k l) = X (ix3 0 (⟨b.val * 256 + k.val, by omega⟩ : Fin 2048) l) := by
  pointwise [k0_pay244]

end Cert.Kernel4Ideal.Moe

end
-- ==== Proof.OutPieces.lean ====
module

public import proofs.«01_k».proof.Proof.Gen.Kernel4Ideal.Value
public import proofs.«01_k».proof.Proof.OutPay

/-! What a point of the output layout leaves in its block of the result. -/

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The 64 rows-apart rectangles the body stages by: one place of the run and one slice of channels each. -/
def strided (q : Fin 4) (t : Fin 16) : Rect S4x2048x128 :=
  ⟨⟨![q.val, t.val, 0], ![1, 128, 128], ![1, 16, 1], fun a => Or.inr (by
    match a with
    | ⟨0, _⟩ => show q.val + 1 * 0 < 4; omega
    | ⟨1, _⟩ => show t.val + 16 * 127 < 2048; omega
    | ⟨2, _⟩ => show 0 + 1 * 127 < 128; omega)⟩, fun a => by
    match a with
    | ⟨0, _⟩ => exact Nat.one_pos
    | ⟨1, _⟩ => show 0 < 16; omega
    | ⟨2, _⟩ => exact Nat.one_pos⟩

def stridedAll : List (Rect S4x2048x128) :=
  List.ofFn fun k : Fin 64 => strided ⟨3 - k.val % 4, by omega⟩ ⟨15 - k.val / 4, by omega⟩

theorem strided_emb (q t : ℕ) (hq : q < 4) (ht : t < 16) (inb : ∀ a, (![1, 128, 128] : Fin 3 → ℕ) a = 0 ∨ (![q, t, 0] : Fin 3 → ℕ) a + (![1, 16, 1] : Fin 3 → ℕ) a * ((![1, 128, 128] : Fin 3 → ℕ) a - 1) < S4x2048x128.size a)
    (sp : ∀ a, 0 < (![1, 16, 1] : Fin 3 → ℕ) a) (z : Fin 1) (r l : Fin 128) :
    (⟨⟨![q, t, 0], ![1, 128, 128], ![1, 16, 1], inb⟩, sp⟩ : Rect S4x2048x128).emb (ix3 z r l) = ix3 (⟨q, hq⟩ : Fin 4) (⟨t + 16 * r.val, by omega⟩ : Fin 2048) l :=
  Rect.emb_eq_of_coords _ _ _ (fun a => by
    match a with
    | ⟨0, _⟩ => simp [ix3]
    | ⟨1, _⟩ => simp [ix3]
    | ⟨2, _⟩ => simp [ix3])

theorem strided_covers (i : S4x2048x128.Idx) : ∃ R ∈ stridedAll, i ∈ R.set := by
  obtain ⟨q, r, l, rfl⟩ : ∃ (q : Fin 4) (r : Fin 2048) (l : Fin 128), i = ix3 q r l := ⟨i 0, i 1, i 2, funext fun a => by
      match a with
      | ⟨0, _⟩ => rfl
      | ⟨1, _⟩ => rfl
      | ⟨2, _⟩ => rfl⟩
  refine ⟨strided q ⟨r.val % 16, by omega⟩, List.mem_ofFn.2 ⟨⟨4 * (15 - r.val % 16) + (3 - q.val), by omega⟩, ?_⟩, ?_⟩
  · exact congrArg₂ strided (Fin.ext (by show 3 - (4 * (15 - r.val % 16) + (3 - q.val)) % 4 = q.val; omega))
      (Fin.ext (by show 15 - (4 * (15 - r.val % 16) + (3 - q.val)) / 4 = r.val % 16; omega))
  · refine LoadRect.mem_set _ |>.2 fun a => ?_
    match a with
    | ⟨0, _⟩ => exact ⟨0, Nat.one_pos, by simp [ix3, strided]⟩
    | ⟨1, _⟩ => exact ⟨r.val / 16, (by show r.val / 16 < 128; omega), by show r.val = r.val % 16 + 16 * (r.val / 16); omega⟩
    | ⟨2, _⟩ => exact ⟨l.val, l.isLt, by show l.val = 0 + 1 * l.val; omega⟩

section Pieces
variable (x : Vec Ideal S32x256x128 .bf16)

/-- What the body stages, by slice of channels, token and channel of the slice. -/
def stagedAt : Vec Ideal S4x2048x128 .f32 := fun i =>
  x (ix3 (⟨8 * (i 0).val + (i 2).val / 16, by have h0 : (i 0).val < 4 := (i 0).isLt; have h2 : (i 2).val < 128 := (i 2).isLt; omega⟩ : Fin 32)
    (⟨16 * ((i 1).val % 16) + (i 2).val % 16, by omega⟩ : Fin 256) (⟨(i 1).val / 16, by have h1 : (i 1).val < 2048 := (i 1).isLt; omega⟩ : Fin 128))

/-- The block a point leaves: tokens by sequence and place, over all the channels. -/
def block : Vec Ideal S8x256x512 .bf16 := fun i =>
  x (ix3 (⟨(i 2).val / 16, by have h2 : (i 2).val < 512 := (i 2).isLt; omega⟩ : Fin 32)
    (⟨16 * ((i 1).val % 16) + (i 2).val % 16, by omega⟩ : Fin 256)
    (⟨((i 0).val * 256 + (i 1).val) / 16, by have h0 : (i 0).val < 8 := (i 0).isLt; have h1 : (i 1).val < 256 := (i 1).isLt; omega⟩ : Fin 128))

theorem load_at (G T : ℕ) (inb : ∀ a, (![G, T, 0] : Fin 3 → ℕ) a + (![1, 16, 128] : Fin 3 → ℕ) a ≤ S32x256x128.size a) (hG : G < 32) (hT : T + 16 ≤ 256) (a : Fin 16) (b : Fin 128) :
    View.ld x (Rect.unit ![G, T, 0] ![1, 16, 128] inb) (ix3 0 a b) = x (ix3 (⟨G, hG⟩ : Fin 32) (⟨T + a.val, by omega⟩ : Fin 256) b) :=
  congrArg x (Rect.emb_eq_of_coords _ _ _ fun a => by
    match a with
    | ⟨0, _⟩ => simp [ix3]
    | ⟨1, _⟩ => simp [ix3]
    | ⟨2, _⟩ => simp [ix3])

theorem staged_piece (q t T G0 G1 G2 G3 G4 G5 G6 G7 : ℕ)
    (inb : ∀ a, (![1, 128, 128] : Fin 3 → ℕ) a = 0 ∨ (![q, t, 0] : Fin 3 → ℕ) a + (![1, 16, 1] : Fin 3 → ℕ) a * ((![1, 128, 128] : Fin 3 → ℕ) a - 1) < S4x2048x128.size a)
    (sp : ∀ a, 0 < (![1, 16, 1] : Fin 3 → ℕ) a)
    (inb0 : ∀ a, (![G0, T, 0] : Fin 3 → ℕ) a + (![1, 16, 128] : Fin 3 → ℕ) a ≤ S32x256x128.size a)
    (inb1 : ∀ a, (![G1, T, 0] : Fin 3 → ℕ) a + (![1, 16, 128] : Fin 3 → ℕ) a ≤ S32x256x128.size a)
    (inb2 : ∀ a, (![G2, T, 0] : Fin 3 → ℕ) a + (![1, 16, 128] : Fin 3 → ℕ) a ≤ S32x256x128.size a)
    (inb3 : ∀ a, (![G3, T, 0] : Fin 3 → ℕ) a + (![1, 16, 128] : Fin 3 → ℕ) a ≤ S32x256x128.size a)
    (inb4 : ∀ a, (![G4, T, 0] : Fin 3 → ℕ) a + (![1, 16, 128] : Fin 3 → ℕ) a ≤ S32x256x128.size a)
    (inb5 : ∀ a, (![G5, T, 0] : Fin 3 → ℕ) a + (![1, 16, 128] : Fin 3 → ℕ) a ≤ S32x256x128.size a)
    (inb6 : ∀ a, (![G6, T, 0] : Fin 3 → ℕ) a + (![1, 16, 128] : Fin 3 → ℕ) a ≤ S32x256x128.size a)
    (inb7 : ∀ a, (![G7, T, 0] : Fin 3 → ℕ) a + (![1, 16, 128] : Fin 3 → ℕ) a ≤ S32x256x128.size a)
    (hT : T = 16 * t) (ht : t < 16) (hq : q < 4) (hG0 : G0 = 8 * q + 0) (hG1 : G1 = 8 * q + 1) (hG2 : G2 = 8 * q + 2) (hG3 : G3 = 8 * q + 3) (hG4 : G4 = 8 * q + 4) (hG5 : G5 = 8 * q + 5) (hG6 : G6 = 8 * q + 6) (hG7 : G7 = 8 * q + 7)
    (y : (⟨⟨![q, t, 0], ![1, 128, 128], ![1, 16, 1], inb⟩, sp⟩ : Rect S4x2048x128).shape.Idx) :
    gathered (View.ld x (Rect.unit ![G0, T, 0] ![1, 16, 128] inb0)) (View.ld x (Rect.unit ![G1, T, 0] ![1, 16, 128] inb1)) (View.ld x (Rect.unit ![G2, T, 0] ![1, 16, 128] inb2)) (View.ld x (Rect.unit ![G3, T, 0] ![1, 16, 128] inb3)) (View.ld x (Rect.unit ![G4, T, 0] ![1, 16, 128] inb4)) (View.ld x (Rect.unit ![G5, T, 0] ![1, 16, 128] inb5)) (View.ld x (Rect.unit ![G6, T, 0] ![1, 16, 128] inb6)) (View.ld x (Rect.unit ![G7, T, 0] ![1, 16, 128] inb7)) y
      = stagedAt x ((⟨⟨![q, t, 0], ![1, 128, 128], ![1, 16, 1], inb⟩, sp⟩ : Rect S4x2048x128).emb y) := by
  obtain ⟨z, r, l, rfl⟩ : ∃ (z : Fin 1) (r : Fin 128) (l : Fin 128), y = ix3 z r l := ⟨y 0, y 1, y 2, funext fun a => by
      match a with
      | ⟨0, _⟩ => rfl
      | ⟨1, _⟩ => rfl
      | ⟨2, _⟩ => rfl⟩
  have e : stagedAt x (ix3 (⟨q, hq⟩ : Fin 4) (⟨t + 16 * r.val, by omega⟩ : Fin 2048) l)
      = x (ix3 (⟨8 * q + l.val / 16, by omega⟩ : Fin 32) (⟨T + l.val % 16, by omega⟩ : Fin 256) r) := by
    refine congrArg x (congr (congrArg₂ ix3 (Fin.ext rfl) (Fin.ext ?_)) (Fin.ext ?_))
    · show 16 * ((t + 16 * r.val) % 16) + l.val % 16 = T + l.val % 16
      omega
    · show (t + 16 * r.val) / 16 = r.val
      omega
  rw [strided_emb q t hq ht inb sp, e]
  exact gathered_at _ _ _ _ _ _ _ _ (fun l b => x (ix3 (⟨8 * q + l.val / 16, by omega⟩ : Fin 32) (⟨T + l.val % 16, by omega⟩ : Fin 256) b))
    (fun a b => (load_at x _ _ _ (by omega) (by omega) a b).trans (congrArg x (congrArg₂ (fun u v => ix3 u v b) (Fin.ext (by simp only []; omega)) (Fin.ext (by simp only []; omega)))))
    (fun a b => (load_at x _ _ _ (by omega) (by omega) a b).trans (congrArg x (congrArg₂ (fun u v => ix3 u v b) (Fin.ext (by simp only []; omega)) (Fin.ext (by simp only []; omega)))))
    (fun a b => (load_at x _ _ _ (by omega) (by omega) a b).trans (congrArg x (congrArg₂ (fun u v => ix3 u v b) (Fin.ext (by simp only []; omega)) (Fin.ext (by simp only []; omega)))))
    (fun a b => (load_at x _ _ _ (by omega) (by omega) a b).trans (congrArg x (congrArg₂ (fun u v => ix3 u v b) (Fin.ext (by simp only []; omega)) (Fin.ext (by simp only []; omega)))))
    (fun a b => (load_at x _ _ _ (by omega) (by omega) a b).trans (congrArg x (congrArg₂ (fun u v => ix3 u v b) (Fin.ext (by simp only []; omega)) (Fin.ext (by simp only []; omega)))))
    (fun a b => (load_at x _ _ _ (by omega) (by omega) a b).trans (congrArg x (congrArg₂ (fun u v => ix3 u v b) (Fin.ext (by simp only []; omega)) (Fin.ext (by simp only []; omega)))))
    (fun a b => (load_at x _ _ _ (by omega) (by omega) a b).trans (congrArg x (congrArg₂ (fun u v => ix3 u v b) (Fin.ext (by simp only []; omega)) (Fin.ext (by simp only []; omega)))))
    (fun a b => (load_at x _ _ _ (by omega) (by omega) a b).trans (congrArg x (congrArg₂ (fun u v => ix3 u v b) (Fin.ext (by simp only []; omega)) (Fin.ext (by simp only []; omega)))))
    z r l

theorem staged_load (v : View sig .tc .vmem S4x2048x128 .f32) (L : List (View.Piece (Elt Ideal) S4x2048x128 .f32)) (hp : ∀ p ∈ L, ∀ y : p.1.shape.Idx, p.2 y = stagedAt x (p.1.emb y))
    (hL : L.map (fun p => p.1) = stridedAll) (B : LoadRect S4x2048x128) (j : B.shape.Idx) : v.readCov L B j = stagedAt x (B.idx j) :=
  View.read_writes_apply_of_pieces v v.junk (stagedAt x) L hp (B.idx j) (by
    obtain ⟨R, hR, hi⟩ := strided_covers (B.idx j)
    rw [← hL] at hR
    obtain ⟨p, hpL, rfl⟩ := List.mem_map.1 hR
    exact ⟨p, hpL, hi⟩)

theorem out_piece (v : View sig .tc .vmem S4x2048x128 .f32) (L : List (View.Piece (Elt Ideal) S4x2048x128 .f32)) (hp : ∀ p ∈ L, ∀ y : p.1.shape.Idx, p.2 y = stagedAt x (p.1.emb y))
    (hL : L.map (fun p => p.1) = stridedAll) (q o : ℕ) (inb : ∀ a, (![0, 0, o] : Fin 3 → ℕ) a + (![8, 256, 128] : Fin 3 → ℕ) a ≤ S8x256x512.size a)
    (inb' : ∀ a, (![q, 0, 0] : Fin 3 → ℕ) a + S1x2048x128.size a ≤ S4x2048x128.size a)
    (hq : q < 4) (ho : o = 128 * q) (y : (Rect.unit (s := S8x256x512) ![0, 0, o] ![8, 256, 128] inb).shape.Idx) :
    k0_pay244 (F := Ideal) (v.readCov L (Rect.unit (s := S4x2048x128) ![q, 0, 0] S1x2048x128.size inb').toLoadRect) y
      = block x ((Rect.unit (s := S8x256x512) ![0, 0, o] ![8, 256, 128] inb).emb y) := by
  obtain ⟨b, k, l, rfl⟩ : ∃ (b : Fin 8) (k : Fin 256) (l : Fin 128), y = ix3 b k l := ⟨y 0, y 1, y 2, funext fun a => by
      match a with
      | ⟨0, _⟩ => rfl
      | ⟨1, _⟩ => rfl
      | ⟨2, _⟩ => rfl⟩
  have hl : (Rect.unit (s := S4x2048x128) ![q, 0, 0] S1x2048x128.size inb').toLoadRect.idx (ix3 (0 : Fin 1) (⟨b.val * 256 + k.val, by omega⟩ : Fin 2048) l)
      = ix3 (⟨q, by omega⟩ : Fin 4) (⟨b.val * 256 + k.val, by omega⟩ : Fin 2048) l := funext fun d => Fin.ext (by
    match d with
    | ⟨0, _⟩ => simp [LoadRect.idx, ix3]
    | ⟨1, _⟩ => simp [LoadRect.idx, ix3]
    | ⟨2, _⟩ => simp [LoadRect.idx, ix3])
  have hr : (Rect.unit (s := S8x256x512) ![0, 0, o] ![8, 256, 128] inb).emb (ix3 b k l) = ix3 b k (⟨o + l.val, by omega⟩ : Fin 512) :=
    Rect.emb_eq_of_coords _ _ _ (fun d => by
      match d with
      | ⟨0, _⟩ => simp [ix3]
      | ⟨1, _⟩ => simp [ix3]
      | ⟨2, _⟩ => simp [ix3])
  rw [hr]
  refine (pay244_at _ b k l).trans ((staged_load x v L hp hL _ _).trans ?_)
  rw [hl]
  refine congrArg x (congr (congrArg₂ ix3 (Fin.ext ?_) (Fin.ext ?_)) (Fin.ext rfl))
  · show 8 * q + l.val / 16 = (o + l.val) / 16
    omega
  · show 16 * ((b.val * 256 + k.val) % 16) + l.val % 16 = 16 * (k.val % 16) + (o + l.val) % 16
    omega

theorem out_pieces (v : View sig .tc .vmem S4x2048x128 .f32) (L : List (View.Piece (Elt Ideal) S4x2048x128 .f32)) (hp : ∀ p ∈ L, ∀ y : p.1.shape.Idx, p.2 y = stagedAt x (p.1.emb y))
    (hL : L.map (fun p => p.1) = stridedAll)
    (inb0 : ∀ a, (![0, 0, 0] : Fin 3 → ℕ) a + (![8, 256, 128] : Fin 3 → ℕ) a ≤ S8x256x512.size a)
    (ld0 : ∀ a, (![0, 0, 0] : Fin 3 → ℕ) a + S1x2048x128.size a ≤ S4x2048x128.size a)
    (inb1 : ∀ a, (![0, 0, 128] : Fin 3 → ℕ) a + (![8, 256, 128] : Fin 3 → ℕ) a ≤ S8x256x512.size a)
    (ld1 : ∀ a, (![1, 0, 0] : Fin 3 → ℕ) a + S1x2048x128.size a ≤ S4x2048x128.size a)
    (inb2 : ∀ a, (![0, 0, 256] : Fin 3 → ℕ) a + (![8, 256, 128] : Fin 3 → ℕ) a ≤ S8x256x512.size a)
    (ld2 : ∀ a, (![2, 0, 0] : Fin 3 → ℕ) a + S1x2048x128.size a ≤ S4x2048x128.size a)
    (inb3 : ∀ a, (![0, 0, 384] : Fin 3 → ℕ) a + (![8, 256, 128] : Fin 3 → ℕ) a ≤ S8x256x512.size a)
    (ld3 : ∀ a, (![3, 0, 0] : Fin 3 → ℕ) a + S1x2048x128.size a ≤ S4x2048x128.size a) :
    ∀ p ∈ ([
      ⟨Rect.unit ![0, 0, 384] ![8, 256, 128] inb3, k0_pay247 (F := Ideal) (v.readCov L (Rect.unit (s := S4x2048x128) ![3, 0, 0] S1x2048x128.size ld3).toLoadRect)⟩,
      ⟨Rect.unit ![0, 0, 256] ![8, 256, 128] inb2, k0_pay246 (F := Ideal) (v.readCov L (Rect.unit (s := S4x2048x128) ![2, 0, 0] S1x2048x128.size ld2).toLoadRect)⟩,
      ⟨Rect.unit ![0, 0, 128] ![8, 256, 128] inb1, k0_pay245 (F := Ideal) (v.readCov L (Rect.unit (s := S4x2048x128) ![1, 0, 0] S1x2048x128.size ld1).toLoadRect)⟩,
      ⟨Rect.unit ![0, 0, 0] ![8, 256, 128] inb0, k0_pay244 (F := Ideal) (v.readCov L (Rect.unit (s := S4x2048x128) ![0, 0, 0] S1x2048x128.size ld0).toLoadRect)⟩] : List (View.Piece (Elt Ideal) S8x256x512 .bf16)),
      ∀ y : p.1.shape.Idx, p.2 y = block x (p.1.emb y) := by
  refine List.forall_mem_cons.2 ⟨fun y => ?_, List.forall_mem_cons.2 ⟨fun y => ?_, List.forall_mem_cons.2 ⟨fun y => ?_, List.forall_mem_cons.2 ⟨fun y => ?_, fun _ h => absurd h List.not_mem_nil⟩⟩⟩⟩
  · exact out_piece x v L hp hL 3 384 inb3 ld3 (by omega) (by omega) y
  · exact out_piece x v L hp hL 2 256 inb2 ld2 (by omega) (by omega) y
  · exact out_piece x v L hp hL 1 128 inb1 ld1 (by omega) (by omega) y
  · exact out_piece x v L hp hL 0 0 inb0 ld0 (by omega) (by omega) y

end Pieces

end Cert.Kernel4Ideal.Moe

end
-- ==== Proof.OutPoint.lean ====
module

public import proofs.«01_k».proof.Proof.Gen.Kernel4Ideal.Value
public import proofs.«01_k».proof.Proof.OutPieces

/-! What a point of the output layout leaves in its block of the result, from the run's pieces. -/

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

set_option maxHeartbeats 4000000 in
theorem point (t : Fin cfg0.N) (i : S8x256x512.Idx) :
    outsAt0 m (0 : Dev nD) t i = block (iblk m 0 0 t) i := by
  unfold outsAt0 out0_A_1
  refine View.read_writes_apply_of_pieces _ _ (block _) _ ?_ _ (cover0_A_1 _ _ _ _ _ _ _ _ _ _)
  unfold kernelRun0_A
  dsimp only
  sl_unfold_words
  simp only [View.readAt_eq_ld, (hs0_0 t).read_unread]
  generalize iblk m 0 0 t = x
  refine out_pieces x _ _ ?_ ?_ _ _ _ _ _ _ _ _
  · repeat refine List.forall_mem_cons.2 ⟨staged_piece x _ _ _ _ _ _ _ _ _ _ _ _ _ _ _ _ _ _ _ _ _ (by decide) (by decide) (by decide) (by decide) (by decide) (by decide) (by decide) (by decide) (by decide) (by decide) (by decide), ?_⟩
    exact fun _ h => absurd h List.not_mem_nil
  · rfl

end Cert.Kernel4Ideal.Moe

end
-- ==== Proof.OutBlocks.lean ====
module

public import proofs.«01_k».proof.Proof.OutPoint

/-! The output layout's blocks as entries of the argument, and its result. -/

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

abbrev arg (b : Ref sig .tc) : Buf (Elt Ideal) (((0 : Dev nD).tc : Thread nD τ).loc b) := m (((0 : Dev nD).tc : Thread nD τ).loc b)

theorem index0 : ∀ t : Fin cfg0.N, win0_0.index t = ![0, 0, t.val] := (by decide +kernel : ∀ t : Fin grid0.N, win0_0.index t = ![0, 0, t.val])
theorem index1 : ∀ t : Fin cfg0.N, win0_1.index t = ![t.val % 2, t.val / 2, 0] := (by decide +kernel : ∀ t : Fin grid0.N, win0_1.index t = ![t.val % 2, t.val / 2, 0])
theorem flush1 : ∀ t : Fin cfg0.N, (cfg0.win 1).flush t = true := (by decide +kernel : ∀ t : Fin grid0.N, win0_1.flush t = true)

theorem lt16 (t : Fin cfg0.N) : t.val < 16 := t.isLt

theorem V_arg : V m 0 main_arg0 = arg m main_arg0 := V_main_arg0 m 0

theorem blk_y (t : Fin cfg0.N) (g : Fin 32) (s : Fin 256) (c : Fin 128) :
    iblk m 0 0 t (ix3 g s c) = arg m main_arg0 (ix3 g s (⟨t.val * 128 + c.val, by have := lt16 t; omega⟩ : Fin 2048)) := by
  rw [← V_arg]
  blk_ext [iblk, V, index0 t]

/-- Where a block's entry lies in the result. -/
def place (t : Fin cfg0.N) (y : S8x256x512.Idx) : S16x2048x512.Idx := ((cfg0.win 1).blk t).view.emb y

theorem place0 (t : Fin cfg0.N) (y : S8x256x512.Idx) : (place t y 0 : ℕ) = t.val % 2 * 8 + y 0 := by
  unfold place
  blk_simp [index1 t]
theorem place1 (t : Fin cfg0.N) (y : S8x256x512.Idx) : (place t y 1 : ℕ) = t.val / 2 * 256 + y 1 := by
  unfold place
  blk_simp [index1 t]
theorem place2 (t : Fin cfg0.N) (y : S8x256x512.Idx) : (place t y 2 : ℕ) = y 2 := by
  unfold place
  blk_simp [index1 t]

/-- The point that leaves a token, and the token's place in its block. -/
def pointOf (b : Fin 16) (k : Fin 2048) : Fin cfg0.N := ⟨k.val / 256 * 2 + b.val / 8, show k.val / 256 * 2 + b.val / 8 < 16 by omega⟩

/-- The column of the argument that holds a token, by sequence and place. -/
def columnOf (b : Fin 16) (k : Fin 2048) : Fin 2048 := ⟨(k.val / 256 * 2 + b.val / 8) * 128 + (b.val % 8 * 256 + k.val % 256) / 16, by omega⟩

/-- The result's array: each token's channels, taken from its group, its place in the run and its column. -/
theorem arr_out (b : Fin 16) (k : Fin 2048) (c : Fin 512) :
    (dats m 0 0).arrAt 1 cfg0.N (ix3 b k c)
      = arg m main_arg0 (ix3 (⟨c.val / 16, by omega⟩ : Fin 32) (⟨16 * (k.val % 16) + c.val % 16, by omega⟩ : Fin 256) (columnOf b k)) := by
  have h := congrFun (Cert.Kernel4Ideal.Value.blocks1 m 0 (pointOf b k) (flush1 _)) (ix3 (⟨b.val % 8, by omega⟩ : Fin 8) (⟨k.val % 256, by omega⟩ : Fin 256) c)
  have e : place (pointOf b k) (ix3 (⟨b.val % 8, by omega⟩ : Fin 8) (⟨k.val % 256, by omega⟩ : Fin 256) c) = ix3 b k c := by
    funext a
    refine Fin.ext ?_
    match a with
    | ⟨0, _⟩ => exact (place0 _ _).trans (by simp only [pointOf, ix3]; show (k.val / 256 * 2 + b.val / 8) % 2 * 8 + b.val % 8 = b.val; omega)
    | ⟨1, _⟩ => exact (place1 _ _).trans (by simp only [pointOf, ix3]; show (k.val / 256 * 2 + b.val / 8) / 2 * 256 + k.val % 256 = k.val; omega)
    | ⟨2, _⟩ => exact place2 _ _
  have h1 : (dats m 0 0).arrAt 1 cfg0.N (place (pointOf b k) (ix3 (⟨b.val % 8, by omega⟩ : Fin 8) (⟨k.val % 256, by omega⟩ : Fin 256) c))
      = outsAt0 m (0 : Dev nD) (pointOf b k) (ix3 (⟨b.val % 8, by omega⟩ : Fin 8) (⟨k.val % 256, by omega⟩ : Fin 256) c) := by
    refine Eq.trans ?_ (h.trans ?_)
    · rfl
    · rw [Cert.Kernel4Ideal.Value.flushed1]; rfl
  rw [e] at h1
  rw [h1, point]
  refine (blk_y m (pointOf b k) ⟨c.val / 16, by omega⟩ ⟨16 * (k.val % 256 % 16) + c.val % 16, by omega⟩ ⟨(b.val % 8 * 256 + k.val % 256) / 16, by omega⟩).trans ?_
  refine congrArg (arg m main_arg0) (congrArg₂ (ix3 _) (Fin.ext ?_) (Fin.ext rfl))
  show 16 * (k.val % 256 % 16) + c.val % 16 = 16 * (k.val % 16) + c.val % 16
  omega

end Cert.Kernel4Ideal.Moe

end
-- ==== Proof.OutRef.lean ====
module

public import proofs.«01_k».proof.Proof.Gen.Reference4Ideal.Read
public import Idealize.ShloMosaic.Lib.Pointwise
public import Idealize.ShloMosaic.Lib.Pipeline.ValueKit

/-! The output layout's reference, entry by entry. -/

@[expose] public section

set_option maxRecDepth 16384

noncomputable section

namespace Cert.Reference4Ideal.Moe

open Cert.Reference4Ideal.Read
open Idealize.ShloMosaic

variable (x0 : Vec Ideal S32x256x2048 .bf16)

theorem laid_out_at (b : Fin 16) (k : Fin 2048) (c : Fin 512) :
    val_main_v2 (F := Ideal) x0 (ix3 b k c)
      = x0 (ix3 (⟨c.val / 16, by omega⟩ : Fin 32) (⟨16 * (k.val % 16) + c.val % 16, by omega⟩ : Fin 256)
          (⟨(k.val / 256 * 2 + b.val / 8) * 128 + (b.val % 8 * 256 + k.val % 256) / 16, by omega⟩ : Fin 2048)) := by
  unfold val_main_v2 val_main_v1 val_main_v0
  pointwise []
  refine congrArg x0 (congr (congrArg₂ ix3 (Fin.ext ?_) (Fin.ext ?_)) (Fin.ext ?_))
  all_goals simp only []
  all_goals omega

end Cert.Reference4Ideal.Moe

end
-- ==== Proof.OutAssembly.lean ====
module

public import proofs.«01_k».proof.Defs
public import proofs.«01_k».proof.Proof.OutBlocks
public import proofs.«01_k».proof.Proof.OutRef
public import proofs.«01_k».proof.Proof.Gen.Kernel4.Frame
public import Idealize.ShloMosaic.Lib.KernelVsHost
public import Idealize.ShloMosaic.Lib.Quiescent

/-! The claims about the scan's output layout, each from the run it is about. -/

@[expose] public section

noncomputable section

namespace Cert.OutputLayout

open Idealize.ShloMosaic Idealize.SL.Sem

theorem frame_kernel : Cert.quiescent_Kernel4 := fun m g _ => Cert.Kernel4.Gen.frame m g

theorem frame_ideal : Cert.quiescent_Kernel4Ideal := fun m g _ => Cert.Kernel4Ideal.Gen.frame m g

theorem frame_reference : Cert.quiescent_Reference4Ideal := fun m g _ =>
  (θ_run Cert.Reference4Ideal.defs _ _).mono (fun r h => ⟨fun c => (h c).2, sem_eq_zero_of_no_sems (by decide) r.2⟩) (Cert.Reference4Ideal.Value.run m g)

theorem value : Cert.algebraic_Kernel4Ideal_Reference4Ideal := fun m g m' g' hp hm => by
  refine ⟨fun c => (Cert.Kernel4Ideal.Gen.dats m 0 c).arrAt 1 Cert.Kernel4Ideal.cfg0.N, ?_, ?_⟩
  · exact Cert.Kernel4Ideal.Value.run_blocks m g
  · refine (θ_run Cert.Reference4Ideal.defs _ _).mono (fun r h c => ⟨?_, (h c).2⟩) (Cert.Reference4Ideal.Value.run m' g')
    obtain rfl : c = 0 := Subsingleton.elim _ _
    have h0 := hm 0
    refine funext fun i => ?_
    obtain ⟨b, k, c, rfl⟩ : ∃ (b : Fin 16) (k : Fin 2048) (c : Fin 512), i = ix3 b k c := ⟨i 0, i 1, i 2, funext fun a => by
      match a with
      | ⟨0, _⟩ => rfl
      | ⟨1, _⟩ => rfl
      | ⟨2, _⟩ => rfl⟩
    refine (congrFun ((h 0).1.trans (Cert.Reference4Ideal.Read.val_main_v2_eq (F := Ideal) _)) _).trans ?_
    refine (Cert.Reference4Ideal.Moe.laid_out_at _ b k c).trans (Eq.trans ?_ (Cert.Kernel4Ideal.Moe.arr_out m b k c).symm)
    rw [h0]
    rfl

end Cert.OutputLayout

end
-- ==== Proof.Assembly.lean ====
module

public import proofs.«01_k».proof.Defs
public import proofs.«01_k».proof.Proof.KernelFrame
public import proofs.«01_k».proof.Proof.KernelOk
public import proofs.«01_k».proof.Proof.IdealFrame
public import proofs.«01_k».proof.Proof.IdealValue
public import proofs.«01_k».proof.Proof.RefValue
public import proofs.«01_k».proof.Proof.MergeAssembly
public import proofs.«01_k».proof.Proof.ProjAssembly
public import proofs.«01_k».proof.Proof.OutAssembly
public import proofs.«01_k».proof.Proof.Gen.Pre_plan_in_range
public import proofs.«01_k».proof.Proof.Gen.Pre_plan_covers
public import Idealize.ShloMosaic.Lib.Quiescent

/-! The claims, each from the run it is about. -/

@[expose] public section

noncomputable section

namespace Cert.Moe

open Idealize.ShloMosaic Idealize.SL.Sem

theorem frame_kernel : Cert.quiescent_Kernel := fun m g hp =>
  Cert.Kernel.Moe.frame_run m g (Cert.Kernel.Moe.ok_of m (inRange_of _ _ _ _ _ _ _ _ _ _ _ _ (hp 0)))

theorem frame_ideal : Cert.quiescent_KernelIdeal := fun m g hp =>
  Cert.KernelIdeal.Moe.frame_run m g (Cert.KernelIdeal.Moe.ok_of m (inRange_of _ _ _ _ _ _ _ _ _ _ _ _ (hp 0)))

theorem frame_ideal_covers : Cert.quiescent_KernelIdeal_pre_plan_covers := fun m g hp =>
  frame_ideal m g fun c => parts _ _ _ _ _ _ _ _ _ _ _ _ (hp c)

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

theorem frame_reference_covers : Cert.quiescent_ReferenceIdeal_pre_plan_covers := fun m g _ => frame_reference m g trivial

/-- The reference's result, from its arguments. -/
theorem reference_result (m : (ℓ : Loc Cert.ReferenceIdeal.nD Cert.ReferenceIdeal.τ Cert.ReferenceIdeal.sig) → Buf (Elt Ideal) ℓ) (c : Dev Cert.ReferenceIdeal.nD)
    (x7 : Vec Ideal ⟨2, ![32768, 1152]⟩ .f32) (x8 : Vec Ideal ⟨1, ![1024]⟩ .f32) (x9 x10 : Vec Ideal ⟨3, ![16, 1024, 256]⟩ .f32) (x11 : Vec Ideal ⟨3, ![16, 256, 1024]⟩ .f32)
    (h7 : m ((c.tc : Thread Cert.ReferenceIdeal.nD Cert.ReferenceIdeal.τ).loc Cert.ReferenceIdeal.main_arg7) = x7)
    (h8 : m ((c.tc : Thread Cert.ReferenceIdeal.nD Cert.ReferenceIdeal.τ).loc Cert.ReferenceIdeal.main_arg8) = x8)
    (h9 : m ((c.tc : Thread Cert.ReferenceIdeal.nD Cert.ReferenceIdeal.τ).loc Cert.ReferenceIdeal.main_arg9) = x9)
    (h10 : m ((c.tc : Thread Cert.ReferenceIdeal.nD Cert.ReferenceIdeal.τ).loc Cert.ReferenceIdeal.main_arg10) = x10)
    (h11 : m ((c.tc : Thread Cert.ReferenceIdeal.nD Cert.ReferenceIdeal.τ).loc Cert.ReferenceIdeal.main_arg11) = x11) :
    Cert.ReferenceIdeal.Value.res_main_v25 m c = (fun i => layer (fun i l => x7 (ix2 i l)) (fun d => x8 (ix1 d)) (fun e d f => x9 (ix3 e d f)) (fun e d f => x10 (ix3 e d f))
      (fun e f j => x11 (ix3 e f j)) ⟨(i 0).val, (i 0).isLt⟩ ⟨(i 1).val, (i 1).isLt⟩ : Vec Ideal ⟨2, ![32768, 1024]⟩ .f32) := by
  subst h7 h8 h9 h10 h11
  rw [Cert.ReferenceIdeal.Read.val_main_v25_eq]
  funext i
  obtain ⟨r, j, rfl⟩ : ∃ (r : Fin 32768) (j : Fin 1024), i = ix2 r j := ⟨i 0, i 1, funext fun a => by
    match a with
    | ⟨0, _⟩ => rfl
    | ⟨1, _⟩ => rfl⟩
  exact Cert.ReferenceIdeal.Moe.result_at _ _ _ _ _ r j

theorem value : Cert.algebraic_KernelIdeal_ReferenceIdeal_pre_plan_covers := fun m g m' g' hp hm => by
  have hR := inRange_of _ _ _ _ _ _ _ _ _ _ _ _ (parts _ _ _ _ _ _ _ _ _ _ _ _ (hp 0))
  have hW := walks_of _ _ _ _ _ _ _ _ _ _ _ _ (hp 0)
  have hC := once_of _ _ _ _ _ _ _ _ _ _ _ _ (hp 0)
  have hO := Cert.KernelIdeal.Moe.ok_of m hR
  refine ⟨fun c => Cert.KernelIdeal.Moe.result m, ?_, ?_⟩
  · refine (θ_run Cert.KernelIdeal.defs _ _).mono (fun r h c => ⟨?_, h.2.1 c⟩)
      (θ_run_and (Cert.KernelIdeal.Moe.run_exact m g hO hW) (Cert.KernelIdeal.Moe.frame_run m g hO))
    obtain rfl : c = 0 := Subsingleton.elim _ _
    exact ((h.1.1 0).1 8).trans (Cert.KernelIdeal.Moe.arr_out m hO hR hW hC)
  · refine (θ_run Cert.ReferenceIdeal.defs _ _).mono (fun r h c => ?_) (Cert.ReferenceIdeal.Value.run m' g')
    obtain rfl : c = 0 := Subsingleton.elim _ _
    obtain ⟨h0, h1, h2, h3, h4, h5, h6, h7, h8, h9, h10, h11⟩ := hm 0
    refine ⟨(h 0).1.trans (reference_result m' 0 _ _ _ _ _ h7 h8 h9 h10 h11), (h 0).2⟩

theorem all : Cert.quiescent_Kernel ∧ Cert.quiescent_KernelIdeal ∧ Cert.quiescent_KernelIdeal_pre_plan_covers ∧ Cert.quiescent_ReferenceIdeal
    ∧ Cert.quiescent_ReferenceIdeal_pre_plan_covers ∧ Cert.quiescent_Kernel2 ∧ Cert.quiescent_Kernel2Ideal ∧ Cert.quiescent_Reference2Ideal
    ∧ Cert.quiescent_Kernel3 ∧ Cert.quiescent_Kernel3Ideal ∧ Cert.quiescent_Reference3Ideal
    ∧ Cert.quiescent_Kernel4 ∧ Cert.quiescent_Kernel4Ideal ∧ Cert.quiescent_Reference4Ideal
    ∧ Cert.preserves_Kernel_KernelIdeal ∧ Cert.algebraic_KernelIdeal_ReferenceIdeal_pre_plan_covers
    ∧ Cert.preserves_Kernel2_Kernel2Ideal ∧ Cert.algebraic_Kernel2Ideal_Reference2Ideal_on_stream_lanes
    ∧ Cert.preserves_Kernel3_Kernel3Ideal ∧ Cert.algebraic_Kernel3Ideal_Reference3Ideal
    ∧ Cert.preserves_Kernel4_Kernel4Ideal ∧ Cert.algebraic_Kernel4Ideal_Reference4Ideal :=
  ⟨frame_kernel, frame_ideal, frame_ideal_covers, frame_reference, frame_reference_covers, Cert.Merge.frame_kernel, Cert.Merge.frame_ideal, Cert.Merge.frame_reference,
    Cert.Projection.frame_kernel, Cert.Projection.frame_ideal, Cert.Projection.frame_reference,
    Cert.OutputLayout.frame_kernel, Cert.OutputLayout.frame_ideal, Cert.OutputLayout.frame_reference,
    trivial, value, trivial, Cert.Merge.value, trivial, Cert.Projection.value, trivial, Cert.OutputLayout.value⟩

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_plan_in_range
public import proofs.«01_k».proof.Proof.Gen.Pre_plan_covers
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.On_stream_lanes
public import proofs.«01_k».proof.Proof.Assembly
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_plan_in_range.Gen.facts, Cert.Pre_plan_covers.Gen.facts, Cert.On_stream_lanes.Gen.facts, Cert.Moe.all⟩

end Cert.Proof

end
